-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v45)) (v4 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_v54) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v352) = v1 c
          ∧ r.2.mem ((c.tc : Thread Cert.ReferenceIdeal.nD Cert.ReferenceIdeal.τ).loc Cert.ReferenceIdeal.main_v353) = v2 c
          ∧ r.2.mem ((c.tc : Thread Cert.ReferenceIdeal.nD Cert.ReferenceIdeal.τ).loc Cert.ReferenceIdeal.main_v204) = v3 c
          ∧ r.2.mem ((c.tc : Thread Cert.ReferenceIdeal.nD Cert.ReferenceIdeal.τ).loc Cert.ReferenceIdeal.main_v351) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8x3x384x512 : Shape := ⟨5, ![1, 8, 3, 384, 512]⟩
abbrev S1x8x1x384x512 : Shape := ⟨5, ![1, 8, 1, 384, 512]⟩
abbrev S3x2 : Shape := ⟨2, ![3, 2]⟩
abbrev S3x1 : Shape := ⟨2, ![3, 1]⟩
abbrev S8x3x384x512 : Shape := ⟨4, ![8, 3, 384, 512]⟩
abbrev S8x384x512 : Shape := ⟨3, ![8, 384, 512]⟩
abbrev S_ : Shape := ⟨0, ![]⟩
abbrev S8x128 : Shape := ⟨2, ![8, 128]⟩
abbrev S1 : Shape := ⟨1, ![1]⟩
abbrev S2 : Shape := ⟨1, ![2]⟩
abbrev S8x1x128 : Shape := ⟨3, ![8, 1, 128]⟩
abbrev S8x3 : Shape := ⟨2, ![8, 3]⟩
abbrev S3 : Shape := ⟨1, ![3]⟩
abbrev S1x3 : Shape := ⟨2, ![1, 3]⟩
abbrev S8 : Shape := ⟨1, ![8]⟩
abbrev S8x1 : Shape := ⟨2, ![8, 1]⟩
abbrev S8x2 : Shape := ⟨2, ![8, 2]⟩
abbrev S8x8 : Shape := ⟨2, ![8, 8]⟩
abbrev S1x8 : Shape := ⟨2, ![1, 8]⟩
abbrev S8x125 : Shape := ⟨2, ![8, 125]⟩
abbrev S8x9x384x512 : Shape := ⟨4, ![8, 9, 384, 512]⟩
abbrev S1x1x128 : Shape := ⟨3, ![1, 1, 128]⟩
abbrev S1x3x384x512 : Shape := ⟨4, ![1, 3, 384, 512]⟩
abbrev S1x384x512 : Shape := ⟨3, ![1, 384, 512]⟩
abbrev S1x9x384x512 : Shape := ⟨4, ![1, 9, 384, 512]⟩
abbrev S1x1x1 : Shape := ⟨3, ![1, 1, 1]⟩
abbrev S384x512 : Shape := ⟨2, ![384, 512]⟩
abbrev S384x384 : Shape := ⟨2, ![384, 384]⟩
abbrev S512x512 : Shape := ⟨2, ![512, 512]⟩
abbrev S1x1x384x512 : Shape := ⟨4, ![1, 1, 384, 512]⟩
abbrev S1x1 : Shape := ⟨2, ![1, 1]⟩
abbrev S8x1x384x512 : Shape := ⟨4, ![8, 1, 384, 512]⟩
abbrev S8x96x128 : Shape := ⟨3, ![8, 96, 128]⟩
abbrev S8x96x128x1 : Shape := ⟨4, ![8, 96, 128, 1]⟩
abbrev S8x96x128x2 : Shape := ⟨4, ![8, 96, 128, 2]⟩
abbrev S1x8x12288x2 : Shape := ⟨4, ![1, 8, 12288, 2]⟩
abbrev S8x384x512x1 : Shape := ⟨4, ![8, 384, 512, 1]⟩
abbrev S8x384x512x2 : Shape := ⟨4, ![8, 384, 512, 2]⟩
abbrev S1x8x196608x2 : Shape := ⟨4, ![1, 8, 196608, 2]⟩
abbrev S1x8x196608x1 : Shape := ⟨4, ![1, 8, 196608, 1]⟩
abbrev S1x8x196608 : Shape := ⟨3, ![1, 8, 196608]⟩
abbrev S8x384x512x7 : Shape := ⟨4, ![8, 384, 512, 7]⟩
abbrev S8x196608x7 : Shape := ⟨3, ![8, 196608, 7]⟩

abbrev nBuf : Space → Nat
  | .hbm => 66
  | .vmem => 12
  | .smem => 0
  | _ => 0

abbrev bufTy : (tb : Table) → Fin (tcTables nBuf tb) → BufTy
  | .hbm, ⟨0, _⟩ => ⟨S1x8x3x384x512, .f32⟩
  | .hbm, ⟨1, _⟩ => ⟨S1x8x1x384x512, .f32⟩
  | .hbm, ⟨2, _⟩ => ⟨S3x2, .f32⟩
  | .hbm, ⟨3, _⟩ => ⟨S3x1, .f32⟩
  | .hbm, ⟨4, _⟩ => ⟨S8x3x384x512, .f32⟩
  | .hbm, ⟨5, _⟩ => ⟨S8x384x512, .f32⟩
  | .hbm, ⟨6, _⟩ => ⟨S_, .f32⟩
  | .hbm, ⟨7, _⟩ => ⟨S8x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S8x128, .f32⟩
  | .hbm, ⟨14, _⟩ => ⟨S_, .f32⟩
  | .hbm, ⟨15, _⟩ => ⟨S8x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x128, .f32⟩
  | .hbm, ⟨22, _⟩ => ⟨S8x1x128, .f32⟩
  | .hbm, ⟨23, _⟩ => ⟨S8x9x384x512, .f32⟩
  | .hbm, ⟨24, _⟩ => ⟨S8x1x384x512, .f32⟩
  | .hbm, ⟨25, _⟩ => ⟨S8x384x512, .f32⟩
  | .hbm, ⟨26, _⟩ => ⟨S8x1x384x512, .f32⟩
  | .hbm, ⟨27, _⟩ => ⟨S8x384x512, .f32⟩
  | .hbm, ⟨28, _⟩ => ⟨S8x1x384x512, .f32⟩
  | .hbm, ⟨29, _⟩ => ⟨S8x384x512, .f32⟩
  | .hbm, ⟨30, _⟩ => ⟨S8x1x384x512, .f32⟩
  | .hbm, ⟨31, _⟩ => ⟨S8x384x512, .f32⟩
  | .hbm, ⟨32, _⟩ => ⟨S8x1x384x512, .f32⟩
  | .hbm, ⟨33, _⟩ => ⟨S8x384x512, .f32⟩
  | .hbm, ⟨34, _⟩ => ⟨S8x1x384x512, .f32⟩
  | .hbm, ⟨35, _⟩ => ⟨S8x384x512, .f32⟩
  | .hbm, ⟨36, _⟩ => ⟨S8x1x384x512, .f32⟩
  | .hbm, ⟨37, _⟩ => ⟨S8x384x512, .f32⟩
  | .hbm, ⟨38, _⟩ => ⟨S8x1x384x512, .f32⟩
  | .hbm, ⟨39, _⟩ => ⟨S8x384x512, .f32⟩
  | .hbm, ⟨40, _⟩ => ⟨S8x1x384x512, .f32⟩
  | .hbm, ⟨41, _⟩ => ⟨S8x384x512, .f32⟩
  | .hbm, ⟨42, _⟩ => ⟨S8x96x128, .f32⟩
  | .hbm, ⟨43, _⟩ => ⟨S8x96x128, .f32⟩
  | .hbm, ⟨44, _⟩ => ⟨S8x96x128x1, .f32⟩
  | .hbm, ⟨45, _⟩ => ⟨S8x96x128x1, .f32⟩
  | .hbm, ⟨46, _⟩ => ⟨S8x96x128x2, .f32⟩
  | .hbm, ⟨47, _⟩ => ⟨S1x8x12288x2, .f32⟩
  | .hbm, ⟨48, _⟩ => ⟨S8x384x512x1, .f32⟩
  | .hbm, ⟨49, _⟩ => ⟨S8x384x512x1, .f32⟩
  | .hbm, ⟨50, _⟩ => ⟨S8x384x512x2, .f32⟩
  | .hbm, ⟨51, _⟩ => ⟨S1x8x196608x2, .f32⟩
  | .hbm, ⟨52, _⟩ => ⟨S1x8x196608x1, .f32⟩
  | .hbm, ⟨53, _⟩ => ⟨S_, .f32⟩
  | .hbm, ⟨54, _⟩ => ⟨S8x384x512, .f32⟩
  | .hbm, ⟨55, _⟩ => ⟨S8x384x512, .i1⟩
  | .hbm, ⟨56, _⟩ => ⟨S1x8x196608, .i1⟩
  | .hbm, ⟨57, _⟩ => ⟨S8x384x512x1, .f32⟩
  | .hbm, ⟨58, _⟩ => ⟨S8x384x512x1, .f32⟩
  | .hbm, ⟨59, _⟩ => ⟨S8x384x512x1, .f32⟩
  | .hbm, ⟨60, _⟩ => ⟨S8x384x512x1, .f32⟩
  | .hbm, ⟨61, _⟩ => ⟨S8x384x512x1, .f32⟩
  | .hbm, ⟨62, _⟩ => ⟨S8x384x512x1, .f32⟩
  | .hbm, ⟨63, _⟩ => ⟨S8x384x512x1, .f32⟩
  | .hbm, ⟨64, _⟩ => ⟨S8x384x512x7, .f32⟩
  | .hbm, ⟨65, _⟩ => ⟨S8x196608x7, .f32⟩
  | .local _ .vmem, ⟨0, _⟩ => ⟨S8x3x384x512, .f32⟩
  | .local _ .vmem, ⟨1, _⟩ => ⟨S8x128, .f32⟩
  | .local _ .vmem, ⟨2, _⟩ => ⟨S8x128, .f32⟩
  | .local _ .vmem, ⟨3, _⟩ => ⟨S8x1x128, .f32⟩
  | .local _ .vmem, ⟨4, _⟩ => ⟨S1x1x128, .f32⟩
  | .local _ .vmem, ⟨5, _⟩ => ⟨S1x1x128, .f32⟩
  | .local _ .vmem, ⟨6, _⟩ => ⟨S1x3x384x512, .f32⟩
  | .local _ .vmem, ⟨7, _⟩ => ⟨S1x3x384x512, .f32⟩
  | .local _ .vmem, ⟨8, _⟩ => ⟨S1x384x512, .f32⟩
  | .local _ .vmem, ⟨9, _⟩ => ⟨S1x384x512, .f32⟩
  | .local _ .vmem, ⟨10, _⟩ => ⟨S1x9x384x512, .f32⟩
  | .local _ .vmem, ⟨11, _⟩ => ⟨S1x9x384x512, .f32⟩
  | _, _ => ⟨S1x8x3x384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := .none

abbrev stage0_0 : Fin 1 → Memref sig .tc .vmem S8x3x384x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x384x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x384x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x9x384x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S1x8x3x384x512 : Shape := ⟨5, ![1, 8, 3, 384, 512]⟩
abbrev S1x8x1x384x512 : Shape := ⟨5, ![1, 8, 1, 384, 512]⟩
abbrev S3x2 : Shape := ⟨2, ![3, 2]⟩
abbrev S3x1 : Shape := ⟨2, ![3, 1]⟩
abbrev S2 : Shape := ⟨1, ![2]⟩
abbrev S85 : Shape := ⟨1, ![85]⟩
abbrev S1x85 : Shape := ⟨2, ![1, 85]⟩
abbrev S64x85 : Shape := ⟨2, ![64, 85]⟩
abbrev S5440 : Shape := ⟨1, ![5440]⟩
abbrev S_ : Shape := ⟨0, ![]⟩
abbrev S64 : Shape := ⟨1, ![64]⟩
abbrev S6 : Shape := ⟨1, ![6]⟩
abbrev S1x6 : Shape := ⟨2, ![1, 6]⟩
abbrev S6x6 : Shape := ⟨2, ![6, 6]⟩
abbrev S36 : Shape := ⟨1, ![36]⟩
abbrev S1x5440 : Shape := ⟨2, ![1, 5440]⟩
abbrev S36x1 : Shape := ⟨2, ![36, 1]⟩
abbrev S36x5440 : Shape := ⟨2, ![36, 5440]⟩
abbrev S195840 : Shape := ⟨1, ![195840]⟩
abbrev S195840x1 : Shape := ⟨2, ![195840, 1]⟩
abbrev S195840x3 : Shape := ⟨2, ![195840, 3]⟩
abbrev S1x195840x3 : Shape := ⟨3, ![1, 195840, 3]⟩
abbrev S1x8x3 : Shape := ⟨3, ![1, 8, 3]⟩
abbrev S1x8x2 : Shape := ⟨3, ![1, 8, 2]⟩
abbrev S1x195840x2 : Shape := ⟨3, ![1, 195840, 2]⟩
abbrev S1x1x195840x2 : Shape := ⟨4, ![1, 1, 195840, 2]⟩
abbrev S1x8x1x2 : Shape := ⟨4, ![1, 8, 1, 2]⟩
abbrev S1x8x195840x2 : Shape := ⟨4, ![1, 8, 195840, 2]⟩
abbrev S1x8x1 : Shape := ⟨3, ![1, 8, 1]⟩
abbrev S1x8x195840 : Shape := ⟨3, ![1, 8, 195840]⟩
abbrev S8x1x384x512 : Shape := ⟨4, ![8, 1, 384, 512]⟩
abbrev S1x8x195840x1 : Shape := ⟨4, ![1, 8, 195840, 1]⟩
abbrev S8x195840 : Shape := ⟨2, ![8, 195840]⟩
abbrev S8x195840x1 : Shape := ⟨3, ![8, 195840, 1]⟩
abbrev S8x195840x2 : Shape := ⟨3, ![8, 195840, 2]⟩
abbrev S8x1x195840 : Shape := ⟨3, ![8, 1, 195840]⟩
abbrev S1x8x1x195840 : Shape := ⟨4, ![1, 8, 1, 195840]⟩
abbrev S1x1x1x2 : Shape := ⟨4, ![1, 1, 1, 2]⟩
abbrev S1x8x195840x3 : Shape := ⟨4, ![1, 8, 195840, 3]⟩
abbrev S1x8x384x512 : Shape := ⟨4, ![1, 8, 384, 512]⟩
abbrev S1x8x3x195840 : Shape := ⟨4, ![1, 8, 3, 195840]⟩
abbrev S195840x2 : Shape := ⟨2, ![195840, 2]⟩
abbrev S1x8x2x96x128 : Shape := ⟨5, ![1, 8, 2, 96, 128]⟩
abbrev S1x8x2x12288 : Shape := ⟨4, ![1, 8, 2, 12288]⟩
abbrev S1x8x12288x2 : Shape := ⟨4, ![1, 8, 12288, 2]⟩
abbrev S1x8x3x196608 : Shape := ⟨4, ![1, 8, 3, 196608]⟩
abbrev S1x8x196608x3 : Shape := ⟨4, ![1, 8, 196608, 3]⟩
abbrev S1x8x196608 : Shape := ⟨3, ![1, 8, 196608]⟩
abbrev S8x3x384x512 : Shape := ⟨4, ![8, 3, 384, 512]⟩
abbrev S8x196608x3 : Shape := ⟨3, ![8, 196608, 3]⟩
abbrev S1 : Shape := ⟨1, ![1]⟩
abbrev S3 : Shape := ⟨1, ![3]⟩
abbrev S1x3 : Shape := ⟨2, ![1, 3]⟩
abbrev S3x3 : Shape := ⟨2, ![3, 3]⟩
abbrev S8x196608x2 : Shape := ⟨3, ![8, 196608, 2]⟩
abbrev S8x196608x1 : Shape := ⟨3, ![8, 196608, 1]⟩
abbrev S1572864x3 : Shape := ⟨2, ![1572864, 3]⟩
abbrev S8x196608 : Shape := ⟨2, ![8, 196608]⟩
abbrev S8x3x196608 : Shape := ⟨3, ![8, 3, 196608]⟩
abbrev S8x1x196608 : Shape := ⟨3, ![8, 1, 196608]⟩
abbrev S8x196608x7 : Shape := ⟨3, ![8, 196608, 7]⟩
abbrev S1x8x196608x2 : Shape := ⟨4, ![1, 8, 196608, 2]⟩
abbrev S1x8x196608x1 : Shape := ⟨4, ![1, 8, 196608, 1]⟩

abbrev nBuf : Space → Nat
  | .hbm => 493
  | .vmem => 0
  | .smem => 0
  | _ => 0

abbrev hbmTy0_0 (i : Nat) : BufTy := match i % 128 with
  | 0 => ⟨S1x8x3x384x512, .f32⟩
  | 1 => ⟨S1x8x1x384x512, .f32⟩
  | 2 => ⟨S3x2, .f32⟩
  | 3 => ⟨S3x1, .f32⟩
  | 4 => ⟨S2, .f32⟩
  | 5 => ⟨S85, .i32⟩
  | 6 => ⟨S1x85, .i32⟩
  | 7 => ⟨S64x85, .i32⟩
  | 8 => ⟨S5440, .i32⟩
  | 9 => ⟨S_, .i32⟩
  | 10 => ⟨S5440, .i32⟩
  | 11 => ⟨S5440, .i32⟩
  | 12 => ⟨S64, .i32⟩
  | 13 => ⟨S64x85, .i32⟩
  | 14 => ⟨S5440, .i32⟩
  | 15 => ⟨S_, .i32⟩
  | 16 => ⟨S5440, .i32⟩
  | 17 => ⟨S5440, .i32⟩
  | 18 => ⟨S6, .i32⟩
  | 19 => ⟨S1x6, .i32⟩
  | 20 => ⟨S6x6, .i32⟩
  | 21 => ⟨S36, .i32⟩
  | 22 => ⟨S6, .i32⟩
  | 23 => ⟨S6x6, .i32⟩
  | 24 => ⟨S36, .i32⟩
  | 25 => ⟨S1x5440, .i32⟩
  | 26 => ⟨S36x1, .i32⟩
  | 27 => ⟨S36x5440, .i32⟩
  | 28 => ⟨S36x5440, .i32⟩
  | 29 => ⟨S36x5440, .i32⟩
  | 30 => ⟨S195840, .i32⟩
  | 31 => ⟨S1x5440, .i32⟩
  | 32 => ⟨S36x1, .i32⟩
  | 33 => ⟨S36x5440, .i32⟩
  | 34 => ⟨S36x5440, .i32⟩
  | 35 => ⟨S36x5440, .i32⟩
  | 36 => ⟨S195840, .i32⟩
  | 37 => ⟨S_, .f32⟩
  | 38 => ⟨S195840, .f32⟩
  | 39 => ⟨S195840, .f32⟩
  | 40 => ⟨S195840, .f32⟩
  | 41 => ⟨S195840x1, .f32⟩
  | 42 => ⟨S195840x1, .f32⟩
  | 43 => ⟨S195840x1, .f32⟩
  | 44 => ⟨S195840x3, .f32⟩
  | 45 => ⟨S1x195840x3, .f32⟩
  | 46 => ⟨S_, .f32⟩
  | 47 => ⟨S1x8x3, .f32⟩
  | 48 => ⟨S_, .f32⟩
  | 49 => ⟨S1x8x3, .f32⟩
  | 50 => ⟨S1x8x3, .f32⟩
  | 51 => ⟨S1x8x2, .f32⟩
  | 52 => ⟨S1x8x2, .f32⟩
  | 53 => ⟨S_, .f32⟩
  | 54 => ⟨S_, .f32⟩
  | 55 => ⟨S1x8x2, .f32⟩
  | 56 => ⟨S1x195840x2, .f32⟩
  | 57 => ⟨S1x1x195840x2, .f32⟩
  | 58 => ⟨S1x8x1x2, .f32⟩
  | 59 => ⟨S1x8x195840x2, .f32⟩
  | 60 => ⟨S1x8x195840x2, .f32⟩
  | 61 => ⟨S1x8x195840x2, .f32⟩
  | 62 => ⟨S1x8x1, .f32⟩
  | 63 => ⟨S1x8x1, .f32⟩
  | 64 => ⟨S1x8x1, .f32⟩
  | 65 => ⟨S_, .f32⟩
  | 66 => ⟨S1x8x1, .f32⟩
  | 67 => ⟨S1x8x1, .f32⟩
  | 68 => ⟨S_, .f32⟩
  | 69 => ⟨S1x8x1, .f32⟩
  | 70 => ⟨S1x8x1, .f32⟩
  | 71 => ⟨S1x8x195840, .f32⟩
  | 72 => ⟨S8x1x384x512, .f32⟩
  | 73 => ⟨S1x8x195840x1, .f32⟩
  | 74 => ⟨S1x8x195840, .f32⟩
  | 75 => ⟨S8x195840, .f32⟩
  | 76 => ⟨S1x8x195840x1, .f32⟩
  | 77 => ⟨S1x8x195840, .f32⟩
  | 78 => ⟨S8x195840, .f32⟩
  | 79 => ⟨S8x195840, .f32⟩
  | 80 => ⟨S8x195840, .f32⟩
  | 81 => ⟨S8x195840, .i32⟩
  | 82 => ⟨S_, .i32⟩
  | 83 => ⟨S_, .i32⟩
  | 84 => ⟨S_, .i32⟩
  | 85 => ⟨S8x195840, .i32⟩
  | 86 => ⟨S8x195840, .i32⟩
  | 87 => ⟨S_, .i32⟩
  | 88 => ⟨S8x195840, .i32⟩
  | 89 => ⟨S8x195840, .i32⟩
  | 90 => ⟨S8x195840, .i32⟩
  | 91 => ⟨S_, .i32⟩
  | 92 => ⟨S8x195840, .i32⟩
  | 93 => ⟨S8x195840, .i32⟩
  | 94 => ⟨S_, .i32⟩
  | 95 => ⟨S_, .i32⟩
  | 96 => ⟨S_, .i32⟩
  | 97 => ⟨S8x195840, .i32⟩
  | 98 => ⟨S8x195840, .i32⟩
  | 99 => ⟨S_, .i32⟩
  | 100 => ⟨S8x195840, .i32⟩
  | 101 => ⟨S8x195840, .i32⟩
  | 102 => ⟨S8x195840, .i32⟩
  | 103 => ⟨S_, .i32⟩
  | 104 => ⟨S_, .i32⟩
  | 105 => ⟨S_, .i32⟩
  | 106 => ⟨S8x195840, .i32⟩
  | 107 => ⟨S8x195840, .i32⟩
  | 108 => ⟨S_, .i32⟩
  | 109 => ⟨S8x195840, .i32⟩
  | 110 => ⟨S8x195840, .i32⟩
  | 111 => ⟨S8x195840, .i32⟩
  | 112 => ⟨S_, .i32⟩
  | 113 => ⟨S8x195840, .i32⟩
  | 114 => ⟨S8x195840, .i32⟩
  | 115 => ⟨S_, .i32⟩
  | 116 => ⟨S_, .i32⟩
  | 117 => ⟨S_, .i32⟩
  | 118 => ⟨S8x195840, .i32⟩
  | 119 => ⟨S8x195840, .i32⟩
  | 120 => ⟨S_, .i32⟩
  | 121 => ⟨S8x195840, .i32⟩
  | 122 => ⟨S8x195840, .i32⟩
  | 123 => ⟨S8x195840, .f32⟩
  | 124 => ⟨S8x195840, .f32⟩
  | 125 => ⟨S_, .i32⟩
  | 126 => ⟨S8x195840, .i32⟩
  | 127 => ⟨S8x195840, .i1⟩
  | _ => ⟨S1x8x3x384x512, .f32⟩

abbrev hbmTy0_1 (i : Nat) : BufTy := match i % 128 with
  | 0 => ⟨S_, .i32⟩
  | 1 => ⟨S8x195840, .i32⟩
  | 2 => ⟨S8x195840, .i32⟩
  | 3 => ⟨S8x195840, .i32⟩
  | 4 => ⟨S_, .i32⟩
  | 5 => ⟨S8x195840, .i32⟩
  | 6 => ⟨S8x195840, .i1⟩
  | 7 => ⟨S_, .i32⟩
  | 8 => ⟨S8x195840, .i32⟩
  | 9 => ⟨S8x195840, .i32⟩
  | 10 => ⟨S8x195840, .i32⟩
  | 11 => ⟨S8x195840x1, .i32⟩
  | 12 => ⟨S8x195840x1, .i32⟩
  | 13 => ⟨S8x195840x2, .i32⟩
  | 14 => ⟨S8x1x195840, .f32⟩
  | 15 => ⟨S_, .i32⟩
  | 16 => ⟨S8x195840, .i32⟩
  | 17 => ⟨S8x195840, .i1⟩
  | 18 => ⟨S_, .i32⟩
  | 19 => ⟨S8x195840, .i32⟩
  | 20 => ⟨S8x195840, .i32⟩
  | 21 => ⟨S8x195840, .i32⟩
  | 22 => ⟨S_, .i32⟩
  | 23 => ⟨S8x195840, .i32⟩
  | 24 => ⟨S8x195840, .i1⟩
  | 25 => ⟨S_, .i32⟩
  | 26 => ⟨S8x195840, .i32⟩
  | 27 => ⟨S8x195840, .i32⟩
  | 28 => ⟨S8x195840, .i32⟩
  | 29 => ⟨S8x195840x1, .i32⟩
  | 30 => ⟨S8x195840x1, .i32⟩
  | 31 => ⟨S8x195840x2, .i32⟩
  | 32 => ⟨S8x1x195840, .f32⟩
  | 33 => ⟨S_, .i32⟩
  | 34 => ⟨S8x195840, .i32⟩
  | 35 => ⟨S8x195840, .i1⟩
  | 36 => ⟨S_, .i32⟩
  | 37 => ⟨S8x195840, .i32⟩
  | 38 => ⟨S8x195840, .i32⟩
  | 39 => ⟨S8x195840, .i32⟩
  | 40 => ⟨S_, .i32⟩
  | 41 => ⟨S8x195840, .i32⟩
  | 42 => ⟨S8x195840, .i1⟩
  | 43 => ⟨S_, .i32⟩
  | 44 => ⟨S8x195840, .i32⟩
  | 45 => ⟨S8x195840, .i32⟩
  | 46 => ⟨S8x195840, .i32⟩
  | 47 => ⟨S8x195840x1, .i32⟩
  | 48 => ⟨S8x195840x1, .i32⟩
  | 49 => ⟨S8x195840x2, .i32⟩
  | 50 => ⟨S8x1x195840, .f32⟩
  | 51 => ⟨S_, .i32⟩
  | 52 => ⟨S8x195840, .i32⟩
  | 53 => ⟨S8x195840, .i1⟩
  | 54 => ⟨S_, .i32⟩
  | 55 => ⟨S8x195840, .i32⟩
  | 56 => ⟨S8x195840, .i32⟩
  | 57 => ⟨S8x195840, .i32⟩
  | 58 => ⟨S_, .i32⟩
  | 59 => ⟨S8x195840, .i32⟩
  | 60 => ⟨S8x195840, .i1⟩
  | 61 => ⟨S_, .i32⟩
  | 62 => ⟨S8x195840, .i32⟩
  | 63 => ⟨S8x195840, .i32⟩
  | 64 => ⟨S8x195840, .i32⟩
  | 65 => ⟨S8x195840x1, .i32⟩
  | 66 => ⟨S8x195840x1, .i32⟩
  | 67 => ⟨S8x195840x2, .i32⟩
  | 68 => ⟨S8x1x195840, .f32⟩
  | 69 => ⟨S_, .f32⟩
  | 70 => ⟨S8x195840, .f32⟩
  | 71 => ⟨S8x195840, .f32⟩
  | 72 => ⟨S_, .f32⟩
  | 73 => ⟨S8x195840, .f32⟩
  | 74 => ⟨S8x195840, .f32⟩
  | 75 => ⟨S8x195840, .f32⟩
  | 76 => ⟨S8x1x195840, .f32⟩
  | 77 => ⟨S_, .f32⟩
  | 78 => ⟨S8x195840, .f32⟩
  | 79 => ⟨S8x195840, .f32⟩
  | 80 => ⟨S8x195840, .f32⟩
  | 81 => ⟨S8x1x195840, .f32⟩
  | 82 => ⟨S_, .f32⟩
  | 83 => ⟨S8x195840, .f32⟩
  | 84 => ⟨S8x195840, .f32⟩
  | 85 => ⟨S8x195840, .f32⟩
  | 86 => ⟨S8x1x195840, .f32⟩
  | 87 => ⟨S8x195840, .f32⟩
  | 88 => ⟨S8x1x195840, .f32⟩
  | 89 => ⟨S8x1x195840, .f32⟩
  | 90 => ⟨S8x1x195840, .f32⟩
  | 91 => ⟨S8x1x195840, .f32⟩
  | 92 => ⟨S8x1x195840, .f32⟩
  | 93 => ⟨S8x1x195840, .f32⟩
  | 94 => ⟨S8x1x195840, .f32⟩
  | 95 => ⟨S8x1x195840, .f32⟩
  | 96 => ⟨S1x8x1x195840, .f32⟩
  | 97 => ⟨S1x8x195840x1, .f32⟩
  | 98 => ⟨S1x1x1x2, .f32⟩
  | 99 => ⟨S1x8x195840x2, .f32⟩
  | 100 => ⟨S1x8x195840x2, .f32⟩
  | 101 => ⟨S1x8x195840x3, .f32⟩
  | 102 => ⟨S_, .f32⟩
  | 103 => ⟨S1x8x3x384x512, .f32⟩
  | 104 => ⟨S_, .f32⟩
  | 105 => ⟨S1x8x384x512, .f32⟩
  | 106 => ⟨S1x8x3x195840, .f32⟩
  | 107 => ⟨S_, .i32⟩
  | 108 => ⟨S195840, .i32⟩
  | 109 => ⟨S195840, .i1⟩
  | 110 => ⟨S_, .i32⟩
  | 111 => ⟨S195840, .i32⟩
  | 112 => ⟨S195840, .i32⟩
  | 113 => ⟨S195840, .i32⟩
  | 114 => ⟨S_, .i32⟩
  | 115 => ⟨S195840, .i32⟩
  | 116 => ⟨S195840, .i1⟩
  | 117 => ⟨S_, .i32⟩
  | 118 => ⟨S195840, .i32⟩
  | 119 => ⟨S195840, .i32⟩
  | 120 => ⟨S195840, .i32⟩
  | 121 => ⟨S195840x1, .i32⟩
  | 122 => ⟨S195840x1, .i32⟩
  | 123 => ⟨S195840x2, .i32⟩
  | 124 => ⟨S1x8x3x384x512, .f32⟩
  | 125 => ⟨S_, .i32⟩
  | 126 => ⟨S195840, .i32⟩
  | 127 => ⟨S195840, .i1⟩
  | _ => ⟨S1x8x3x384x512, .f32⟩

abbrev hbmTy0_2 (i : Nat) : BufTy := match i % 128 with
  | 0 => ⟨S_, .i32⟩
  | 1 => ⟨S195840, .i32⟩
  | 2 => ⟨S195840, .i32⟩
  | 3 => ⟨S195840, .i32⟩
  | 4 => ⟨S_, .i32⟩
  | 5 => ⟨S195840, .i32⟩
  | 6 => ⟨S195840, .i1⟩
  | 7 => ⟨S_, .i32⟩
  | 8 => ⟨S195840, .i32⟩
  | 9 => ⟨S195840, .i32⟩
  | 10 => ⟨S195840, .i32⟩
  | 11 => ⟨S195840x1, .i32⟩
  | 12 => ⟨S195840x1, .i32⟩
  | 13 => ⟨S195840x2, .i32⟩
  | 14 => ⟨S1x8x384x512, .f32⟩
  | 15 => ⟨S1x8x2x96x128, .f32⟩
  | 16 => ⟨S1x8x2x12288, .f32⟩
  | 17 => ⟨S1x8x12288x2, .f32⟩
  | 18 => ⟨S1x8x3x196608, .f32⟩
  | 19 => ⟨S1x8x196608x3, .f32⟩
  | 20 => ⟨S1x8x196608, .f32⟩
  | 21 => ⟨S_, .f32⟩
  | 22 => ⟨S1x8x196608, .f32⟩
  | 23 => ⟨S1x8x196608, .i1⟩
  | 24 => ⟨S8x3x384x512, .f32⟩
  | 25 => ⟨S8x196608x3, .f32⟩
  | 26 => ⟨S_, .f32⟩
  | 27 => ⟨S_, .f32⟩
  | 28 => ⟨S_, .f32⟩
  | 29 => ⟨S1, .f32⟩
  | 30 => ⟨S1, .f32⟩
  | 31 => ⟨S1, .f32⟩
  | 32 => ⟨S3, .f32⟩
  | 33 => ⟨S_, .f32⟩
  | 34 => ⟨S_, .f32⟩
  | 35 => ⟨S_, .f32⟩
  | 36 => ⟨S1, .f32⟩
  | 37 => ⟨S1, .f32⟩
  | 38 => ⟨S1, .f32⟩
  | 39 => ⟨S3, .f32⟩
  | 40 => ⟨S_, .f32⟩
  | 41 => ⟨S_, .f32⟩
  | 42 => ⟨S_, .f32⟩
  | 43 => ⟨S1, .f32⟩
  | 44 => ⟨S1, .f32⟩
  | 45 => ⟨S1, .f32⟩
  | 46 => ⟨S3, .f32⟩
  | 47 => ⟨S1x3, .f32⟩
  | 48 => ⟨S1x3, .f32⟩
  | 49 => ⟨S1x3, .f32⟩
  | 50 => ⟨S3x3, .f32⟩
  | 51 => ⟨S8x196608x2, .f32⟩
  | 52 => ⟨S8x196608x1, .f32⟩
  | 53 => ⟨S_, .f32⟩
  | 54 => ⟨S8x196608x1, .f32⟩
  | 55 => ⟨S8x196608x3, .f32⟩
  | 56 => ⟨S1572864x3, .f32⟩
  | 57 => ⟨S3x3, .f32⟩
  | 58 => ⟨S1572864x3, .f32⟩
  | 59 => ⟨S8x196608x3, .f32⟩
  | 60 => ⟨S8x196608x2, .f32⟩
  | 61 => ⟨S8x196608x1, .f32⟩
  | 62 => ⟨S8x196608x1, .f32⟩
  | 63 => ⟨S8x196608x1, .f32⟩
  | 64 => ⟨S8x196608x3, .f32⟩
  | 65 => ⟨S8x196608x1, .f32⟩
  | 66 => ⟨S8x196608, .f32⟩
  | 67 => ⟨S_, .f32⟩
  | 68 => ⟨S8x196608, .f32⟩
  | 69 => ⟨S8x196608, .f32⟩
  | 70 => ⟨S_, .f32⟩
  | 71 => ⟨S8x196608, .f32⟩
  | 72 => ⟨S8x196608, .f32⟩
  | 73 => ⟨S8x196608x1, .f32⟩
  | 74 => ⟨S8x196608, .f32⟩
  | 75 => ⟨S_, .f32⟩
  | 76 => ⟨S8x196608, .f32⟩
  | 77 => ⟨S8x196608, .f32⟩
  | 78 => ⟨S_, .f32⟩
  | 79 => ⟨S8x196608, .f32⟩
  | 80 => ⟨S8x196608, .f32⟩
  | 81 => ⟨S8x196608, .f32⟩
  | 82 => ⟨S8x196608, .f32⟩
  | 83 => ⟨S8x196608, .i32⟩
  | 84 => ⟨S_, .i32⟩
  | 85 => ⟨S_, .i32⟩
  | 86 => ⟨S_, .i32⟩
  | 87 => ⟨S8x196608, .i32⟩
  | 88 => ⟨S8x196608, .i32⟩
  | 89 => ⟨S_, .i32⟩
  | 90 => ⟨S8x196608, .i32⟩
  | 91 => ⟨S8x196608, .i32⟩
  | 92 => ⟨S8x196608, .i32⟩
  | 93 => ⟨S_, .i32⟩
  | 94 => ⟨S8x196608, .i32⟩
  | 95 => ⟨S8x196608, .i32⟩
  | 96 => ⟨S_, .i32⟩
  | 97 => ⟨S_, .i32⟩
  | 98 => ⟨S_, .i32⟩
  | 99 => ⟨S8x196608, .i32⟩
  | 100 => ⟨S8x196608, .i32⟩
  | 101 => ⟨S_, .i32⟩
  | 102 => ⟨S8x196608, .i32⟩
  | 103 => ⟨S8x196608, .i32⟩
  | 104 => ⟨S8x196608, .i32⟩
  | 105 => ⟨S_, .i32⟩
  | 106 => ⟨S_, .i32⟩
  | 107 => ⟨S_, .i32⟩
  | 108 => ⟨S8x196608, .i32⟩
  | 109 => ⟨S8x196608, .i32⟩
  | 110 => ⟨S_, .i32⟩
  | 111 => ⟨S8x196608, .i32⟩
  | 112 => ⟨S8x196608, .i32⟩
  | 113 => ⟨S8x196608, .i32⟩
  | 114 => ⟨S_, .i32⟩
  | 115 => ⟨S8x196608, .i32⟩
  | 116 => ⟨S8x196608, .i32⟩
  | 117 => ⟨S_, .i32⟩
  | 118 => ⟨S_, .i32⟩
  | 119 => ⟨S_, .i32⟩
  | 120 => ⟨S8x196608, .i32⟩
  | 121 => ⟨S8x196608, .i32⟩
  | 122 => ⟨S_, .i32⟩
  | 123 => ⟨S8x196608, .i32⟩
  | 124 => ⟨S8x196608, .i32⟩
  | 125 => ⟨S8x196608, .f32⟩
  | 126 => ⟨S8x196608, .f32⟩
  | 127 => ⟨S_, .i32⟩
  | _ => ⟨S1x8x3x384x512, .f32⟩

abbrev hbmTy0_3 (i : Nat) : BufTy := match i % 128 with
  | 0 => ⟨S8x196608, .i32⟩
  | 1 => ⟨S8x196608, .i1⟩
  | 2 => ⟨S_, .i32⟩
  | 3 => ⟨S8x196608, .i32⟩
  | 4 => ⟨S8x196608, .i32⟩
  | 5 => ⟨S8x196608, .i32⟩
  | 6 => ⟨S_, .i32⟩
  | 7 => ⟨S8x196608, .i32⟩
  | 8 => ⟨S8x196608, .i1⟩
  | 9 => ⟨S_, .i32⟩
  | 10 => ⟨S8x196608, .i32⟩
  | 11 => ⟨S8x196608, .i32⟩
  | 12 => ⟨S8x196608, .i32⟩
  | 13 => ⟨S8x196608x1, .i32⟩
  | 14 => ⟨S8x196608x1, .i32⟩
  | 15 => ⟨S8x196608x2, .i32⟩
  | 16 => ⟨S8x3x196608, .f32⟩
  | 17 => ⟨S_, .i32⟩
  | 18 => ⟨S8x196608, .i32⟩
  | 19 => ⟨S8x196608, .i1⟩
  | 20 => ⟨S_, .i32⟩
  | 21 => ⟨S8x196608, .i32⟩
  | 22 => ⟨S8x196608, .i32⟩
  | 23 => ⟨S8x196608, .i32⟩
  | 24 => ⟨S_, .i32⟩
  | 25 => ⟨S8x196608, .i32⟩
  | 26 => ⟨S8x196608, .i1⟩
  | 27 => ⟨S_, .i32⟩
  | 28 => ⟨S8x196608, .i32⟩
  | 29 => ⟨S8x196608, .i32⟩
  | 30 => ⟨S8x196608, .i32⟩
  | 31 => ⟨S8x196608x1, .i32⟩
  | 32 => ⟨S8x196608x1, .i32⟩
  | 33 => ⟨S8x196608x2, .i32⟩
  | 34 => ⟨S8x3x196608, .f32⟩
  | 35 => ⟨S_, .i32⟩
  | 36 => ⟨S8x196608, .i32⟩
  | 37 => ⟨S8x196608, .i1⟩
  | 38 => ⟨S_, .i32⟩
  | 39 => ⟨S8x196608, .i32⟩
  | 40 => ⟨S8x196608, .i32⟩
  | 41 => ⟨S8x196608, .i32⟩
  | 42 => ⟨S_, .i32⟩
  | 43 => ⟨S8x196608, .i32⟩
  | 44 => ⟨S8x196608, .i1⟩
  | 45 => ⟨S_, .i32⟩
  | 46 => ⟨S8x196608, .i32⟩
  | 47 => ⟨S8x196608, .i32⟩
  | 48 => ⟨S8x196608, .i32⟩
  | 49 => ⟨S8x196608x1, .i32⟩
  | 50 => ⟨S8x196608x1, .i32⟩
  | 51 => ⟨S8x196608x2, .i32⟩
  | 52 => ⟨S8x3x196608, .f32⟩
  | 53 => ⟨S_, .i32⟩
  | 54 => ⟨S8x196608, .i32⟩
  | 55 => ⟨S8x196608, .i1⟩
  | 56 => ⟨S_, .i32⟩
  | 57 => ⟨S8x196608, .i32⟩
  | 58 => ⟨S8x196608, .i32⟩
  | 59 => ⟨S8x196608, .i32⟩
  | 60 => ⟨S_, .i32⟩
  | 61 => ⟨S8x196608, .i32⟩
  | 62 => ⟨S8x196608, .i1⟩
  | 63 => ⟨S_, .i32⟩
  | 64 => ⟨S8x196608, .i32⟩
  | 65 => ⟨S8x196608, .i32⟩
  | 66 => ⟨S8x196608, .i32⟩
  | 67 => ⟨S8x196608x1, .i32⟩
  | 68 => ⟨S8x196608x1, .i32⟩
  | 69 => ⟨S8x196608x2, .i32⟩
  | 70 => ⟨S8x3x196608, .f32⟩
  | 71 => ⟨S_, .f32⟩
  | 72 => ⟨S8x196608, .f32⟩
  | 73 => ⟨S8x196608, .f32⟩
  | 74 => ⟨S_, .f32⟩
  | 75 => ⟨S8x196608, .f32⟩
  | 76 => ⟨S8x196608, .f32⟩
  | 77 => ⟨S8x196608, .f32⟩
  | 78 => ⟨S8x1x196608, .f32⟩
  | 79 => ⟨S_, .f32⟩
  | 80 => ⟨S8x196608, .f32⟩
  | 81 => ⟨S8x196608, .f32⟩
  | 82 => ⟨S8x196608, .f32⟩
  | 83 => ⟨S8x1x196608, .f32⟩
  | 84 => ⟨S_, .f32⟩
  | 85 => ⟨S8x196608, .f32⟩
  | 86 => ⟨S8x196608, .f32⟩
  | 87 => ⟨S8x196608, .f32⟩
  | 88 => ⟨S8x1x196608, .f32⟩
  | 89 => ⟨S8x196608, .f32⟩
  | 90 => ⟨S8x1x196608, .f32⟩
  | 91 => ⟨S8x3x196608, .f32⟩
  | 92 => ⟨S8x3x196608, .f32⟩
  | 93 => ⟨S8x3x196608, .f32⟩
  | 94 => ⟨S8x3x196608, .f32⟩
  | 95 => ⟨S8x3x196608, .f32⟩
  | 96 => ⟨S8x3x196608, .f32⟩
  | 97 => ⟨S8x3x196608, .f32⟩
  | 98 => ⟨S8x3x196608, .f32⟩
  | 99 => ⟨S8x3x196608, .f32⟩
  | 100 => ⟨S8x3x196608, .f32⟩
  | 101 => ⟨S8x3x196608, .f32⟩
  | 102 => ⟨S8x196608x3, .f32⟩
  | 103 => ⟨S8x196608, .i1⟩
  | 104 => ⟨S8x196608x1, .i1⟩
  | 105 => ⟨S8x196608x1, .f32⟩
  | 106 => ⟨S8x196608x7, .f32⟩
  | 107 => ⟨S1x8x196608x2, .f32⟩
  | 108 => ⟨S1x8x196608x1, .f32⟩
  | _ => ⟨S1x8x3x384x512, .f32⟩

abbrev hbmTy (i : Nat) : BufTy := match i / 128 with
  | 0 => hbmTy0_0 i
  | 1 => hbmTy0_1 i
  | 2 => hbmTy0_2 i
  | 3 => hbmTy0_3 i
  | _ => ⟨S1x8x3x384x512, .f32⟩

abbrev bufTy : (tb : Table) → Fin (tcTables nBuf tb) → BufTy
  | .hbm, ⟨i, _⟩ => hbmTy i
  | _, _ => ⟨S1x8x3x384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_call0_cst : Ref sig .tc := ⟨.hbm, 53, rfl⟩
abbrev main_call0_call0_v0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_6 : Ref sig .tc := ⟨.hbm, 82, rfl⟩
abbrev main_c_7 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v68 : Ref sig .tc := ⟨.hbm, 89, rfl⟩
abbrev main_v69 : Ref sig .tc := ⟨.hbm, 90, rfl⟩
abbrev main_c_8 : Ref sig .tc := ⟨.hbm, 91, rfl⟩
abbrev main_v70 : Ref sig .tc := ⟨.hbm, 92, rfl⟩
abbrev main_v71 : Ref sig .tc := ⟨.hbm, 93, rfl⟩
abbrev main_c_9 : Ref sig .tc := ⟨.hbm, 94, rfl⟩
abbrev main_c_10 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_c_12 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v74 : Ref sig .tc := ⟨.hbm, 110, rfl⟩
abbrev main_v75 : Ref sig .tc := ⟨.hbm, 111, rfl⟩
abbrev main_c_13 : Ref sig .tc := ⟨.hbm, 112, rfl⟩
abbrev main_v76 : Ref sig .tc := ⟨.hbm, 113, rfl⟩
abbrev main_v77 : Ref sig .tc := ⟨.hbm, 114, rfl⟩
abbrev main_c_14 : Ref sig .tc := ⟨.hbm, 115, rfl⟩
abbrev main_c_15 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_16 : Ref sig .tc := ⟨.hbm, 125, rfl⟩
abbrev main_v81 : Ref sig .tc := ⟨.hbm, 126, rfl⟩
abbrev main_v82 : Ref sig .tc := ⟨.hbm, 127, rfl⟩
abbrev main_c_17 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_18 : Ref sig .tc := ⟨.hbm, 132, rfl⟩
abbrev main_v86 : Ref sig .tc := ⟨.hbm, 133, rfl⟩
abbrev main_v87 : Ref sig .tc := ⟨.hbm, 134, rfl⟩
abbrev main_c_19 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_20 : Ref sig .tc := ⟨.hbm, 143, rfl⟩
abbrev main_v95 : Ref sig .tc := ⟨.hbm, 144, rfl⟩
abbrev main_v96 : Ref sig .tc := ⟨.hbm, 145, rfl⟩
abbrev main_c_21 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_c_22 : Ref sig .tc := ⟨.hbm, 150, rfl⟩
abbrev main_v100 : Ref sig .tc := ⟨.hbm, 151, rfl⟩
abbrev main_v101 : Ref sig .tc := ⟨.hbm, 152, rfl⟩
abbrev main_c_23 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_24 : Ref sig .tc := ⟨.hbm, 161, rfl⟩
abbrev main_v109 : Ref sig .tc := ⟨.hbm, 162, rfl⟩
abbrev main_v110 : Ref sig .tc := ⟨.hbm, 163, rfl⟩
abbrev main_c_25 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_26 : Ref sig .tc := ⟨.hbm, 168, rfl⟩
abbrev main_v114 : Ref sig .tc := ⟨.hbm, 169, rfl⟩
abbrev main_v115 : Ref sig .tc := ⟨.hbm, 170, rfl⟩
abbrev main_c_27 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_c_28 : Ref sig .tc := ⟨.hbm, 179, rfl⟩
abbrev main_v123 : Ref sig .tc := ⟨.hbm, 180, rfl⟩
abbrev main_v124 : Ref sig .tc := ⟨.hbm, 181, rfl⟩
abbrev main_c_29 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_c_30 : Ref sig .tc := ⟨.hbm, 186, rfl⟩
abbrev main_v128 : Ref sig .tc := ⟨.hbm, 187, rfl⟩
abbrev main_v129 : Ref sig .tc := ⟨.hbm, 188, rfl⟩
abbrev main_c_31 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_32 : Ref sig .tc := ⟨.hbm, 197, rfl⟩
abbrev main_v137 : Ref sig .tc := ⟨.hbm, 198, rfl⟩
abbrev main_v138 : Ref sig .tc := ⟨.hbm, 199, rfl⟩
abbrev main_cst_33 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_cst_34 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_35 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_cst_36 : Ref sig .tc := ⟨.hbm, 230, rfl⟩
abbrev main_v166 : Ref sig .tc := ⟨.hbm, 231, rfl⟩
abbrev main_cst_37 : Ref sig .tc := ⟨.hbm, 232, rfl⟩
abbrev main_v167 : Ref sig .tc := ⟨.hbm, 233, rfl⟩
abbrev main_v168 : Ref sig .tc := ⟨.hbm, 234, rfl⟩
abbrev main_c_38 : Ref sig .tc := ⟨.hbm, 235, rfl⟩
abbrev main_v169 : Ref sig .tc := ⟨.hbm, 236, rfl⟩
abbrev main_v170 : Ref sig .tc := ⟨.hbm, 237, rfl⟩
abbrev main_c_39 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_c_40 : Ref sig .tc := ⟨.hbm, 242, rfl⟩
abbrev main_v174 : Ref sig .tc := ⟨.hbm, 243, rfl⟩
abbrev main_v175 : Ref sig .tc := ⟨.hbm, 244, rfl⟩
abbrev main_c_41 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_c_42 : Ref sig .tc := ⟨.hbm, 253, rfl⟩
abbrev main_v183 : Ref sig .tc := ⟨.hbm, 254, rfl⟩
abbrev main_v184 : Ref sig .tc := ⟨.hbm, 255, rfl⟩
abbrev main_c_43 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_c_44 : Ref sig .tc := ⟨.hbm, 260, rfl⟩
abbrev main_v188 : Ref sig .tc := ⟨.hbm, 261, rfl⟩
abbrev main_v189 : Ref sig .tc := ⟨.hbm, 262, rfl⟩
abbrev main_c_45 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_46 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_cst_47 : Ref sig .tc := ⟨.hbm, 282, rfl⟩
abbrev main_cst_48 : Ref sig .tc := ⟨.hbm, 283, rfl⟩
abbrev main_cst_49 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_cst_50 : Ref sig .tc := ⟨.hbm, 289, rfl⟩
abbrev main_cst_51 : Ref sig .tc := ⟨.hbm, 290, rfl⟩
abbrev main_cst_52 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_cst_53 : Ref sig .tc := ⟨.hbm, 296, rfl⟩
abbrev main_cst_54 : Ref sig .tc := ⟨.hbm, 297, rfl⟩
abbrev main_cst_55 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_cst_56 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_cst_57 : Ref sig .tc := ⟨.hbm, 323, rfl⟩
abbrev main_v238 : Ref sig .tc := ⟨.hbm, 324, rfl⟩
abbrev main_v239 : Ref sig .tc := ⟨.hbm, 325, rfl⟩
abbrev main_cst_58 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_cst_59 : Ref sig .tc := ⟨.hbm, 331, rfl⟩
abbrev main_v244 : Ref sig .tc := ⟨.hbm, 332, rfl⟩
abbrev main_v245 : Ref sig .tc := ⟨.hbm, 333, rfl⟩
abbrev main_cst_60 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_c_61 : Ref sig .tc := ⟨.hbm, 340, rfl⟩
abbrev main_c_62 : Ref sig .tc := ⟨.hbm, 341, rfl⟩
abbrev main_call5_v0 : Ref sig .tc := ⟨.hbm, 342, rfl⟩
abbrev main_call5_v1 : Ref sig .tc := ⟨.hbm, 343, rfl⟩
abbrev main_call5_v2 : Ref sig .tc := ⟨.hbm, 344, rfl⟩
abbrev main_call5_v3 : Ref sig .tc := ⟨.hbm, 345, rfl⟩
abbrev main_call5_v4 : Ref sig .tc := ⟨.hbm, 346, rfl⟩
abbrev main_v251 : Ref sig .tc := ⟨.hbm, 347, rfl⟩
abbrev main_v252 : Ref sig .tc := ⟨.hbm, 348, rfl⟩
abbrev main_c_63 : Ref sig .tc := ⟨.hbm, 349, rfl⟩
abbrev main_v253 : Ref sig .tc := ⟨.hbm, 350, rfl⟩
abbrev main_v254 : Ref sig .tc := ⟨.hbm, 351, rfl⟩
abbrev main_c_64 : Ref sig .tc := ⟨.hbm, 352, rfl⟩
abbrev main_c_65 : Ref sig .tc := ⟨.hbm, 353, rfl⟩
abbrev main_call6_v0 : Ref sig .tc := ⟨.hbm, 354, rfl⟩
abbrev main_call6_v1 : Ref sig .tc := ⟨.hbm, 355, rfl⟩
abbrev main_call6_v2 : Ref sig .tc := ⟨.hbm, 356, rfl⟩
abbrev main_call6_v3 : Ref sig .tc := ⟨.hbm, 357, rfl⟩
abbrev main_call6_v4 : Ref sig .tc := ⟨.hbm, 358, rfl⟩
abbrev main_v255 : Ref sig .tc := ⟨.hbm, 359, rfl⟩
abbrev main_v256 : Ref sig .tc := ⟨.hbm, 360, rfl⟩
abbrev main_c_66 : Ref sig .tc := ⟨.hbm, 361, rfl⟩
abbrev main_c_67 : Ref sig .tc := ⟨.hbm, 362, rfl⟩
abbrev main_call7_v0 : Ref sig .tc := ⟨.hbm, 363, rfl⟩
abbrev main_call7_v1 : Ref sig .tc := ⟨.hbm, 364, rfl⟩
abbrev main_call7_v2 : Ref sig .tc := ⟨.hbm, 365, rfl⟩
abbrev main_call7_v3 : Ref sig .tc := ⟨.hbm, 366, rfl⟩
abbrev main_call7_v4 : Ref sig .tc := ⟨.hbm, 367, rfl⟩
abbrev main_v257 : Ref sig .tc := ⟨.hbm, 368, rfl⟩
abbrev main_v258 : Ref sig .tc := ⟨.hbm, 369, rfl⟩
abbrev main_c_68 : Ref sig .tc := ⟨.hbm, 370, rfl⟩
abbrev main_v259 : Ref sig .tc := ⟨.hbm, 371, rfl⟩
abbrev main_v260 : Ref sig .tc := ⟨.hbm, 372, rfl⟩
abbrev main_c_69 : Ref sig .tc := ⟨.hbm, 373, rfl⟩
abbrev main_c_70 : Ref sig .tc := ⟨.hbm, 374, rfl⟩
abbrev main_call8_v0 : Ref sig .tc := ⟨.hbm, 375, rfl⟩
abbrev main_call8_v1 : Ref sig .tc := ⟨.hbm, 376, rfl⟩
abbrev main_call8_v2 : Ref sig .tc := ⟨.hbm, 377, rfl⟩
abbrev main_call8_v3 : Ref sig .tc := ⟨.hbm, 378, rfl⟩
abbrev main_call8_v4 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_c_71 : Ref sig .tc := ⟨.hbm, 383, rfl⟩
abbrev main_v264 : Ref sig .tc := ⟨.hbm, 384, rfl⟩
abbrev main_v265 : Ref sig .tc := ⟨.hbm, 385, rfl⟩
abbrev main_c_72 : Ref sig .tc := ⟨.hbm, 386, rfl⟩
abbrev main_v266 : Ref sig .tc := ⟨.hbm, 387, rfl⟩
abbrev main_v267 : Ref sig .tc := ⟨.hbm, 388, rfl⟩
abbrev main_v268 : Ref sig .tc := ⟨.hbm, 389, rfl⟩
abbrev main_c_73 : Ref sig .tc := ⟨.hbm, 390, rfl⟩
abbrev main_v269 : Ref sig .tc := ⟨.hbm, 391, rfl⟩
abbrev main_v270 : Ref sig .tc := ⟨.hbm, 392, rfl⟩
abbrev main_c_74 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_v276 : Ref sig .tc := ⟨.hbm, 399, rfl⟩
abbrev main_v277 : Ref sig .tc := ⟨.hbm, 400, rfl⟩
abbrev main_c_75 : Ref sig .tc := ⟨.hbm, 401, rfl⟩
abbrev main_v278 : Ref sig .tc := ⟨.hbm, 402, rfl⟩
abbrev main_v279 : Ref sig .tc := ⟨.hbm, 403, rfl⟩
abbrev main_c_76 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_c_77 : Ref sig .tc := ⟨.hbm, 408, rfl⟩
abbrev main_v283 : Ref sig .tc := ⟨.hbm, 409, rfl⟩
abbrev main_v284 : Ref sig .tc := ⟨.hbm, 410, rfl⟩
abbrev main_c_78 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_v290 : Ref sig .tc := ⟨.hbm, 417, rfl⟩
abbrev main_v291 : Ref sig .tc := ⟨.hbm, 418, rfl⟩
abbrev main_c_79 : Ref sig .tc := ⟨.hbm, 419, rfl⟩
abbrev main_v292 : Ref sig .tc := ⟨.hbm, 420, rfl⟩
abbrev main_v293 : Ref sig .tc := ⟨.hbm, 421, rfl⟩
abbrev main_c_80 : Ref sig .tc := ⟨.hbm, 422, rfl⟩
abbrev main_v294 : Ref sig .tc := ⟨.hbm, 423, rfl⟩
abbrev main_v295 : Ref sig .tc := ⟨.hbm, 424, rfl⟩
abbrev main_v296 : Ref sig .tc := ⟨.hbm, 425, rfl⟩
abbrev main_c_81 : Ref sig .tc := ⟨.hbm, 426, rfl⟩
abbrev main_v297 : Ref sig .tc := ⟨.hbm, 427, rfl⟩
abbrev main_v298 : Ref sig .tc := ⟨.hbm, 428, rfl⟩
abbrev main_c_82 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_v303 : Ref sig .tc := ⟨.hbm, 434, rfl⟩
abbrev main_v304 : Ref sig .tc := ⟨.hbm, 435, rfl⟩
abbrev main_v305 : Ref sig .tc := ⟨.hbm, 436, rfl⟩
abbrev main_c_83 : Ref sig .tc := ⟨.hbm, 437, rfl⟩
abbrev main_v306 : Ref sig .tc := ⟨.hbm, 438, rfl⟩
abbrev main_v307 : Ref sig .tc := ⟨.hbm, 439, rfl⟩
abbrev main_c_84 : Ref sig .tc := ⟨.hbm, 440, rfl⟩
abbrev main_v308 : Ref sig .tc := ⟨.hbm, 441, rfl⟩
abbrev main_v309 : Ref sig .tc := ⟨.hbm, 442, rfl⟩
abbrev main_v310 : Ref sig .tc := ⟨.hbm, 443, rfl⟩
abbrev main_c_85 : Ref sig .tc := ⟨.hbm, 444, rfl⟩
abbrev main_v311 : Ref sig .tc := ⟨.hbm, 445, rfl⟩
abbrev main_v312 : Ref sig .tc := ⟨.hbm, 446, rfl⟩
abbrev main_c_86 : Ref sig .tc := ⟨.hbm, 447, rfl⟩
abbrev main_v313 : Ref sig .tc := ⟨.hbm, 448, rfl⟩
abbrev main_v314 : Ref sig .tc := ⟨.hbm, 449, rfl⟩
abbrev main_v315 : Ref sig .tc := ⟨.hbm, 450, rfl⟩
abbrev main_v316 : Ref sig .tc := ⟨.hbm, 451, rfl⟩
abbrev main_v317 : Ref sig .tc := ⟨.hbm, 452, rfl⟩
abbrev main_v318 : Ref sig .tc := ⟨.hbm, 453, rfl⟩
abbrev main_v319 : Ref sig .tc := ⟨.hbm, 454, rfl⟩
abbrev main_cst_87 : Ref sig .tc := ⟨.hbm, 455, rfl⟩
abbrev main_v320 : Ref sig .tc := ⟨.hbm, 456, rfl⟩
abbrev main_v321 : Ref sig .tc := ⟨.hbm, 457, rfl⟩
abbrev main_cst_88 : Ref sig .tc := ⟨.hbm, 458, rfl⟩
abbrev main_v322 : Ref sig .tc := ⟨.hbm, 459, rfl⟩
abbrev main_v323 : Ref sig .tc := ⟨.hbm, 460, rfl⟩
abbrev main_v324 : Ref sig .tc := ⟨.hbm, 461, rfl⟩
abbrev main_v325 : Ref sig .tc := ⟨.hbm, 462, rfl⟩
abbrev main_cst_89 : Ref sig .tc := ⟨.hbm, 463, rfl⟩
abbrev main_v326 : Ref sig .tc := ⟨.hbm, 464, rfl⟩
abbrev main_v327 : Ref sig .tc := ⟨.hbm, 465, rfl⟩
abbrev main_v328 : Ref sig .tc := ⟨.hbm, 466, rfl⟩
abbrev main_v329 : Ref sig .tc := ⟨.hbm, 467, rfl⟩
abbrev main_cst_90 : Ref sig .tc := ⟨.hbm, 468, rfl⟩
abbrev main_v330 : Ref sig .tc := ⟨.hbm, 469, rfl⟩
abbrev main_v331 : Ref sig .tc := ⟨.hbm, 470, rfl⟩
abbrev main_v332 : Ref sig .tc := ⟨.hbm, 471, rfl⟩
abbrev main_v333 : Ref sig .tc := ⟨.hbm, 472, rfl⟩
abbrev main_v334 : Ref sig .tc := ⟨.hbm, 473, rfl⟩
abbrev main_v335 : Ref sig .tc := ⟨.hbm, 474, rfl⟩
abbrev main_v336 : Ref sig .tc := ⟨.hbm, 475, rfl⟩
abbrev main_v337 : Ref sig .tc := ⟨.hbm, 476, rfl⟩
abbrev main_v338 : Ref sig .tc := ⟨.hbm, 477, rfl⟩
abbrev main_v339 : Ref sig .tc := ⟨.hbm, 478, rfl⟩
abbrev main_v340 : Ref sig .tc := ⟨.hbm, 479, rfl⟩
abbrev main_v341 : Ref sig .tc := ⟨.hbm, 480, rfl⟩
abbrev main_v342 : Ref sig .tc := ⟨.hbm, 481, rfl⟩
abbrev main_v343 : Ref sig .tc := ⟨.hbm, 482, rfl⟩
abbrev main_v344 : Ref sig .tc := ⟨.hbm, 483, rfl⟩
abbrev main_v345 : Ref sig .tc := ⟨.hbm, 484, rfl⟩
abbrev main_v346 : Ref sig .tc := ⟨.hbm, 485, rfl⟩
abbrev main_v347 : Ref sig .tc := ⟨.hbm, 486, rfl⟩
abbrev main_v348 : Ref sig .tc := ⟨.hbm, 487, rfl⟩
abbrev main_v349 : Ref sig .tc := ⟨.hbm, 488, rfl⟩
abbrev main_v350 : Ref sig .tc := ⟨.hbm, 489, rfl⟩
abbrev main_v351 : Ref sig .tc := ⟨.hbm, 490, rfl⟩
abbrev main_v352 : Ref sig .tc := ⟨.hbm, 491, rfl⟩
abbrev main_v353 : Ref sig .tc := ⟨.hbm, 492, rfl⟩

abbrev nD : Nat := 1
abbrev τ : Topo := Topo.v7x

variable {F : FTy → Type} [FloatOps F]
-- ==== Proof.Bilinear.lean ====
/- Two one-hot weightings against bilinear sampling, over the extended reals. -/
module
public import Idealize.ShloMosaic.Lib.Pointwise
@[expose] public section
set_option maxRecDepth 16384
noncomputable section
namespace Cert.K01
open Idealize.ShloMosaic

/-- `x` is an ordinary real number, neither infinity. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx; obtain ⟨b, rfl⟩ := hy; exact ⟨a + b, by push_cast; rfl⟩

/-- A product of two reals is real. -/
theorem IsReal.mul {x y : EReal} (hx : IsReal x) (hy : IsReal y) : IsReal (x * y) := by
  obtain ⟨a, rfl⟩ := hx; obtain ⟨b, rfl⟩ := hy; exact ⟨a * b, by push_cast; rfl⟩

/-- A real divided by a real other than zero is real. -/
theorem IsReal.div {x y : EReal} (hx : IsReal x) (hy : IsReal y) (h0 : y ≠ 0) : IsReal (Ideal.div x y) := by
  obtain ⟨a, rfl⟩ := hx; obtain ⟨b, rfl⟩ := hy
  refine ⟨a * b⁻¹, ?_⟩
  rw [Ideal.div, if_neg h0, EReal.coe_mul, EReal.coe_inv]

/-- Zero is real. -/
theorem IsReal.zero : IsReal 0 := ⟨0, rfl⟩

/-- A finite sum of reals is real. -/
theorem IsReal.sum {ι : Type} (s : Finset ι) (f : ι → EReal) (h : ∀ i, IsReal (f i)) : IsReal (∑ i ∈ s, f i) :=
  Finset.sum_induction f IsReal (fun _ _ => IsReal.add) IsReal.zero fun i _ => h i

/-- The hyperbolic tangent is real everywhere, at the infinities too. -/
theorem IsReal.tanh (x : EReal) : IsReal (Ideal.tanh x) := by
  induction x with
  | bot => exact ⟨-1, by simp [Ideal.tanh_bot]⟩
  | top => exact ⟨1, by simp [Ideal.tanh_top]⟩
  | coe r => exact ⟨_, Ideal.tanh_coe r⟩

/-- The floor of an extended real. -/
abbrev fl (x : EReal) : EReal := Ideal.liftRound Int.floor x

/-- The lower of the two neighbouring indices of `x`, clipped to `0 … M`. -/
def lo (M : BitVec 32) (x : EReal) : BitVec 32 :=
  IntOp.minsi M (IntOp.maxsi 0#32 (FloatOps.fptosi (F := Ideal) (φ := .f32) 32 (fl x)))

/-- The upper of the two neighbouring indices of `x`, clipped to `0 … M`. -/
def hi (M : BitVec 32) (x : EReal) : BitVec 32 :=
  IntOp.minsi M (IntOp.maxsi 0#32 (IntOp.addi (FloatOps.fptosi (F := Ideal) (φ := .f32) 32 (fl x)) 1#32))

/-- The position `w` names among `n`, the last one where `w` is larger. -/
def pos (n : Nat) [NeZero n] (w : BitVec 32) : Fin n :=
  ⟨min w.toNat (n - 1), by have := NeZero.pos n; omega⟩

/-- The weight that index `i` has in the linear interpolation at `x`. -/
def tap (M : BitVec 32) (x : EReal) (i : Nat) : EReal :=
  Scalar.select (IntOp.cmpi .eq (BitVec.ofNat 32 i) (lo M x)) (1 - (x - fl x)) 0
    + Scalar.select (IntOp.cmpi .eq (BitVec.ofNat 32 i) (hi M x)) (x - fl x) 0

/-- Bilinear sampling of the image `D` at column `x`, row `y`. -/
def bil (D : Fin 384 → Fin 512 → EReal) (x y : EReal) : EReal :=
  D (pos 384 (lo 383#32 y)) (pos 512 (lo 511#32 x)) * ((1 - (x - fl x)) * (1 - (y - fl y)))
    + D (pos 384 (hi 383#32 y)) (pos 512 (lo 511#32 x)) * ((1 - (x - fl x)) * (y - fl y))
    + D (pos 384 (lo 383#32 y)) (pos 512 (hi 511#32 x)) * ((x - fl x) * (1 - (y - fl y)))
    + D (pos 384 (hi 383#32 y)) (pos 512 (hi 511#32 x)) * ((x - fl x) * (y - fl y))

/-- A clipped word is at most the clip's upper end. -/
theorem clip_le (n : Nat) (hn : n < 2 ^ 31) (w : BitVec 32) :
    (IntOp.minsi (BitVec.ofNat 32 n) (IntOp.maxsi 0#32 w)).toNat ≤ n := by
  have hN : (BitVec.ofNat 32 n).toNat = n := by simp only [BitVec.toNat_ofNat]; omega
  have h := BitVec.toInt_eq_toNat_cond w
  have h0 : (0#32).toInt = 0 := rfl
  have hI : (BitVec.ofNat 32 n).toInt = n := by
    rw [BitVec.toInt_eq_toNat_cond, hN]; split <;> omega
  unfold IntOp.minsi IntOp.maxsi
  simp only [BitVec.sle_eq_decide, BitVec.slt_eq_decide]
  repeat' split
  all_goals simp_all
  all_goals omega

/-- A clipped index of `x` is below the extent, so `pos` reads it as it is. -/
theorem lo_lt (n : Nat) (hn : n < 2 ^ 31) (x : EReal) : (lo (BitVec.ofNat 32 n) x).toNat < n + 1 :=
  Nat.lt_succ_of_le (clip_le n hn _)

/-- The same of the upper neighbour. -/
theorem hi_lt (n : Nat) (hn : n < 2 ^ 31) (x : EReal) : (hi (BitVec.ofNat 32 n) x).toNat < n + 1 :=
  Nat.lt_succ_of_le (clip_le n hn _)

/-- The fractional part of a real is a real in `[0, 1]`, and so is one less it. -/
theorem frac_real {x : EReal} (hx : IsReal x) :
    0 ≤ x - fl x ∧ 0 ≤ 1 - (x - fl x) ∧ x - fl x ≠ ⊤ ∧ 1 - (x - fl x) ≠ ⊤ := by
  obtain ⟨r, rfl⟩ := hx
  have e : (r : EReal) - fl (r : EReal) = ((r - ⌊r⌋ : ℝ) : EReal) := by
    show (r : EReal) - (((⌊r⌋ : ℤ) : ℝ) : EReal) = _
    rw [EReal.coe_sub]
  have e1 : (1 : EReal) - ((r - ⌊r⌋ : ℝ) : EReal) = ((1 - (r - ⌊r⌋) : ℝ) : EReal) := by
    rw [← EReal.coe_one, ← EReal.coe_sub]
  rw [e, e1]
  have h1 := Int.floor_le r
  have h2 := (Int.lt_floor_add_one r).le
  exact ⟨EReal.coe_nonneg.2 (by linarith), EReal.coe_nonneg.2 (by linarith), EReal.coe_ne_top _, EReal.coe_ne_top _⟩

/-- A sum against a one-hot selection at the word `a` is the term at `a`. -/
theorem onehot_sum (n : Nat) (hn : n < 2 ^ 32) (a : BitVec 32) (ha : a.toNat < n) (u : EReal) (f : Fin n → EReal) :
    ∑ i : Fin n, Scalar.select (IntOp.cmpi .eq (BitVec.ofNat 32 i.val) a) u 0 * f i = u * f ⟨a.toNat, ha⟩ := by
  rw [Finset.sum_eq_single (⟨a.toNat, ha⟩ : Fin n)]
  · simp [Scalar.select, IntOp.cmpi]
  · intro i _ hi
    have : ¬ BitVec.ofNat 32 i.val = a := fun h => hi (Fin.ext (by
      show i.val = a.toNat
      simp only [← h, BitVec.toNat_ofNat]; omega))
    have hb : (BitVec.ofNat 32 i.val == a) = false := by simpa using this
    simp [Scalar.select, IntOp.cmpi, hb]
  · intro h; exact absurd (Finset.mem_univ _) h

/-- The weighted sum of `f` with the interpolation weights at a real `x` is its linear interpolation. -/
theorem tap_sum (n : Nat) [NeZero n] (hn : n < 2 ^ 31) (x : EReal) (hx : IsReal x) (f : Fin n → EReal) :
    ∑ i : Fin n, tap (BitVec.ofNat 32 (n - 1)) x i.val * f i
      = (1 - (x - fl x)) * f (pos n (lo (BitVec.ofNat 32 (n - 1)) x)) + (x - fl x) * f (pos n (hi (BitVec.ofNat 32 (n - 1)) x)) := by
  have hpos := NeZero.pos n
  obtain ⟨h0, h1, -, -⟩ := frac_real hx
  have hl : (lo (BitVec.ofNat 32 (n - 1)) x).toNat < n := by have := lo_lt (n - 1) (by omega) x; omega
  have hh : (hi (BitVec.ofNat 32 (n - 1)) x).toNat < n := by have := hi_lt (n - 1) (by omega) x; omega
  have nn (c : BitVec 1) (u : EReal) (hu : 0 ≤ u) : 0 ≤ Scalar.select c u 0 := by
    unfold Scalar.select; split <;> simp [hu]
  have e : ∀ i : Fin n, tap (BitVec.ofNat 32 (n - 1)) x i.val * f i
      = Scalar.select (IntOp.cmpi .eq (BitVec.ofNat 32 i.val) (lo (BitVec.ofNat 32 (n - 1)) x)) (1 - (x - fl x)) 0 * f i
        + Scalar.select (IntOp.cmpi .eq (BitVec.ofNat 32 i.val) (hi (BitVec.ofNat 32 (n - 1)) x)) (x - fl x) 0 * f i := fun i => by
    unfold tap
    exact EReal.right_distrib_of_nonneg (nn _ _ h1) (nn _ _ h0)
  simp only [e]
  rw [Finset.sum_add_distrib, onehot_sum n (by omega) _ hl, onehot_sum n (by omega) _ hh]
  congr 3 <;> exact Fin.ext (by simp only [pos]; omega)

/-- The image weighted by rows and then by columns is its bilinear sample. -/
theorem tap_tap (D : Fin 384 → Fin 512 → EReal) (x y : EReal) (hx : IsReal x) (hy : IsReal y) :
    ∑ j : Fin 512, (∑ i : Fin 384, tap 383#32 y i.val * D i j) * tap 511#32 x j.val = bil D x y := by
  obtain ⟨h0, h1, h2, h3⟩ := frac_real hx
  have hrow (j : Fin 512) := tap_sum 384 (by norm_num) y hy fun i => D i j
  simp only [Nat.reduceSub] at hrow
  have hcol := tap_sum 512 (by norm_num) x hx
  simp only [Nat.reduceSub] at hcol
  simp only [hrow]
  rw [Finset.sum_congr rfl fun j _ => mul_comm _ _, hcol]
  rw [EReal.left_distrib_of_nonneg_of_ne_top h1 h3, EReal.left_distrib_of_nonneg_of_ne_top h0 h2]
  unfold bil
  rw [← add_assoc]
  congr 1
  · congr 1
    · congr 1
      · rw [← mul_assoc, mul_comm]
      · rw [← mul_assoc, mul_comm]
    · rw [← mul_assoc, mul_comm]
  · rw [← mul_assoc, mul_comm]

/-- At the origin the bilinear sample is the image's first element. -/
theorem bil_zero (D : Fin 384 → Fin 512 → EReal) : bil D 0 0 = D 0 0 := by
  have hf : fl 0 = 0 := by
    show Ideal.liftRound Int.floor ((0 : ℝ) : EReal) = _
    show (((⌊(0 : ℝ)⌋ : ℤ) : ℝ) : EReal) = 0
    simp
  have h0 : FloatOps.fptosi (F := Ideal) (φ := .f32) 32 (0 : EReal) = 0#32 := by
    show BitVec.ofInt 32 (max (-((2 ^ 31 : Nat) : Int)) (min (((2 ^ 31 : Nat) : Int) - 1) (if 0 ≤ (0 : ℝ) then ⌊(0 : ℝ)⌋ else ⌈(0 : ℝ)⌉))) = _
    simp
  have hl (n : Nat) [NeZero n] (M : BitVec 32) (hM : lo M 0 = 0#32) : pos n (lo M 0) = 0 := by
    rw [hM]; exact Fin.ext (by simp [pos])
  have l3 : lo 383#32 0 = 0#32 := by unfold lo; rw [hf, h0]; decide
  have l5 : lo 511#32 0 = 0#32 := by unfold lo; rw [hf, h0]; decide
  unfold bil
  rw [hl 384 _ l3, hl 512 _ l5, hf]
  simp

end Cert.K01
end
-- ==== Proof.Spec.lean ====
/- The five results written in terms of the four argument arrays: what both programs are shown to compute. -/
module
public import proofs.«01_k».proof.Proof.Bilinear
@[expose] public section
set_option maxRecDepth 16384
noncomputable section
namespace Cert.K01
open Idealize.ShloMosaic

/-- The video's shape. -/
abbrev SV : Shape := ⟨5, ![1, 8, 3, 384, 512]⟩
/-- The depth maps' shape. -/
abbrev SD : Shape := ⟨5, ![1, 8, 1, 384, 512]⟩
/-- The shape of the motion weights. -/
abbrev SM : Shape := ⟨2, ![3, 2]⟩
/-- The shape of the visibility weights. -/
abbrev SK : Shape := ⟨2, ![3, 1]⟩

variable (V : SV.Idx → EReal) (D : SD.Idx → EReal) (A : SM.Idx → EReal) (K : SK.Idx → EReal)

/-- The mean of channel `c` of frame `t`. -/
def feat (t : Fin 8) (c : Fin 3) : EReal :=
  Ideal.div (∑ y : Fin 384, ∑ x : Fin 512, V (ix5 0 t c y x)) (Ideal.ofBits .f32 0x48400000#32)

/-- The motion of frame `t` along direction `k`. -/
def step (t : Fin 8) (k : Fin 2) : EReal := Ideal.tanh (∑ c : Fin 3, feat V t c * A (ix2 c k))

/-- The motion summed over the frames up to `t`. -/
def drift (t : Fin 8) (k : Fin 2) : EReal := ∑ s : Fin 8, if s.val ≤ t.val then step V A s k else 0

/-- The visibility of frame `t`. -/
def visib (t : Fin 8) : EReal := Ideal.logistic (∑ c : Fin 3, feat V t c * K (ix2 c 0))

/-- The visibility bit of frame `t`: above the threshold. -/
def visBit (t : Fin 8) : BitVec 1 := Ideal.cmp .ogt (visib V K t) (Ideal.ofBits .f32 0x3F4CCCCD#32)

/-- A word read as a real. -/
abbrev wordReal (n : Nat) : EReal := FloatOps.sitofp (F := Ideal) .f32 (BitVec.ofNat 32 n)

/-- The tracked column of pixel column `x` in frame `t`. -/
def colAt (t : Fin 8) (x : Nat) : EReal := wordReal x + drift V A t 0
/-- The tracked row of pixel row `y` in frame `t`. -/
def rowAt (t : Fin 8) (y : Nat) : EReal := wordReal y + drift V A t 1

/-- The depth map of frame `t`. -/
def depthIm (t : Fin 8) : Fin 384 → Fin 512 → EReal := fun i j => D (ix5 0 t 0 i j)
/-- Channel `c` of frame `t`. -/
def chanIm (t : Fin 8) (c : Fin 3) : Fin 384 → Fin 512 → EReal := fun i j => V (ix5 0 t c i j)

/-- The dense track of pixel `(y, x)`: its column; zero in the last two columns, which no point covers. -/
def trackX (t : Fin 8) (x : Fin 512) : EReal := if x.val < 510 then colAt V A t x.val else 0
/-- Its row. -/
def trackY (t : Fin 8) (y : Fin 384) (x : Fin 512) : EReal := if x.val < 510 then rowAt V A t y.val else 0
/-- Its depth. -/
def trackD (t : Fin 8) (y : Fin 384) (x : Fin 512) : EReal :=
  if x.val < 510 then bil (depthIm D t) (colAt V A t x.val) (rowAt V A t y.val) else 0
/-- Whether it is visible. -/
def trackB (t : Fin 8) (x : Fin 512) : BitVec 1 := if x.val < 510 then visBit V K t else 0#1

/-- A track's column as a video coordinate: over 512, times 511. -/
def pixX (u : EReal) : EReal := Ideal.div u (Ideal.ofBits .f32 0x44000000#32) * Ideal.ofBits .f32 0x43FF8000#32
/-- A track's row as a video coordinate: over 384, times 383. -/
def pixY (u : EReal) : EReal := Ideal.div u (Ideal.ofBits .f32 0x43C00000#32) * Ideal.ofBits .f32 0x43BF8000#32

/-- The colour of pixel `(y, x)`: the video sampled at its track. -/
def colour (t : Fin 8) (c : Fin 3) (y : Fin 384) (x : Fin 512) : EReal :=
  bil (chanIm V t c) (pixX (trackX V A t x)) (pixY (trackY V A t y x))

/-- The track's column in camera coordinates. -/
def camX (u : EReal) : EReal := u * Ideal.ofBits .f32 0x3B000000#32 - Ideal.ofBits .f32 0x3F000000#32
/-- The track's row in camera coordinates. -/
def camY (u : EReal) : EReal := u * Ideal.ofBits .f32 0x3B000000#32 - Ideal.ofBits .f32 0x3EC00000#32

/-- Column `j` of the three-dimensional trajectory of pixel `(y, x)`: camera column, camera row, depth, three colours, visibility. -/
def traj (t : Fin 8) (y : Fin 384) (x : Fin 512) (j : Fin 7) : EReal :=
  match j.val with
  | 0 => camX (trackX V A t x)
  | 1 => camY (trackY V A t y x)
  | 2 => trackD V D A t y x
  | 3 => colour V A t 0 y x
  | 4 => colour V A t 1 y x
  | 5 => colour V A t 2 y x
  | _ => FloatOps.uitofp (F := Ideal) .f32 (trackB V K t x)

/-- The tracks of the coarse grid of every fourth pixel. -/
def G0 : (⟨4, ![1, 8, 12288, 2]⟩ : Shape).Idx → EReal := fun i =>
  if (i 3).val < 1 then trackX V A (i 1) ⟨4 * ((i 2).val % 128), by omega⟩
  else trackY V A (i 1) ⟨4 * ((i 2).val / 128), by have : (i 2).val < 12288 := (i 2).isLt; omega⟩ ⟨4 * ((i 2).val % 128), by omega⟩
/-- The tracks of every pixel. -/
def G1 : (⟨4, ![1, 8, 196608, 2]⟩ : Shape).Idx → EReal := fun i =>
  if (i 3).val < 1 then trackX V A (i 1) ⟨(i 2).val % 512, by omega⟩
  else trackY V A (i 1) ⟨(i 2).val / 512, by have : (i 2).val < 196608 := (i 2).isLt; omega⟩ ⟨(i 2).val % 512, by omega⟩
/-- The depths of every pixel. -/
def G2 : (⟨4, ![1, 8, 196608, 1]⟩ : Shape).Idx → EReal := fun i =>
  trackD V D A (i 1) ⟨(i 2).val / 512, by have : (i 2).val < 196608 := (i 2).isLt; omega⟩ ⟨(i 2).val % 512, by omega⟩
/-- The visibility bits of every pixel. -/
def G3 : (⟨3, ![1, 8, 196608]⟩ : Shape).Idx → BitVec 1 := fun i => trackB V K (i 1) ⟨(i 2).val % 512, by omega⟩
/-- The trajectories of every pixel. -/
def G4 : (⟨3, ![8, 196608, 7]⟩ : Shape).Idx → EReal := fun i =>
  traj V D A K (i 0) ⟨(i 1).val / 512, by have : (i 1).val < 196608 := (i 1).isLt; omega⟩ ⟨(i 1).val % 512, by omega⟩ (i 2)

/-- Every summed motion is a real number. -/
theorem drift_real (t : Fin 8) (k : Fin 2) : IsReal (drift V A t k) :=
  IsReal.sum _ _ fun s => by split; exacts [IsReal.tanh _, IsReal.zero]

/-- A word read as a float is real. -/
theorem wordReal_real (n : Nat) : IsReal (wordReal n) := ⟨_, rfl⟩

/-- A tracked column is real. -/
theorem colAt_real (t : Fin 8) (x : Nat) : IsReal (colAt V A t x) := (wordReal_real x).add (drift_real V A t 0)
/-- A tracked row is real. -/
theorem rowAt_real (t : Fin 8) (y : Nat) : IsReal (rowAt V A t y) := (wordReal_real y).add (drift_real V A t 1)

/-- 512 is what its word denotes. -/
theorem c512 : Ideal.ofBits .f32 0x44000000#32 = ((512 : ℝ) : EReal) := by simp [Ideal.ofBits, Ideal.ieee, -EReal.coe_mul]; norm_num
/-- 511 is what its word denotes. -/
theorem c511 : Ideal.ofBits .f32 0x43FF8000#32 = ((511 : ℝ) : EReal) := by simp [Ideal.ofBits, Ideal.ieee, -EReal.coe_mul]; norm_num
/-- 384 is what its word denotes. -/
theorem c384 : Ideal.ofBits .f32 0x43C00000#32 = ((384 : ℝ) : EReal) := by simp [Ideal.ofBits, Ideal.ieee, -EReal.coe_mul]; norm_num
/-- 383 is what its word denotes. -/
theorem c383 : Ideal.ofBits .f32 0x43BF8000#32 = ((383 : ℝ) : EReal) := by simp [Ideal.ofBits, Ideal.ieee, -EReal.coe_mul]; norm_num

/-- A real column's video coordinate is real. -/
theorem pixX_real {u : EReal} (h : IsReal u) : IsReal (pixX u) := by
  unfold pixX; rw [c512, c511]
  exact (h.div ⟨_, rfl⟩ (by exact_mod_cast (by norm_num : (512 : ℝ) ≠ 0))).mul ⟨_, rfl⟩
/-- A real row's video coordinate is real. -/
theorem pixY_real {u : EReal} (h : IsReal u) : IsReal (pixY u) := by
  unfold pixY; rw [c384, c383]
  exact (h.div ⟨_, rfl⟩ (by exact_mod_cast (by norm_num : (384 : ℝ) ≠ 0))).mul ⟨_, rfl⟩
/-- Column zero stays at zero. -/
theorem pixX_zero : pixX 0 = 0 := by
  unfold pixX; rw [c512, Ideal.div, if_neg (by exact_mod_cast (by norm_num : (512 : ℝ) ≠ 0))]; simp
/-- Row zero stays at zero. -/
theorem pixY_zero : pixY 0 = 0 := by
  unfold pixY; rw [c384, Ideal.div, if_neg (by exact_mod_cast (by norm_num : (384 : ℝ) ≠ 0))]; simp

end Cert.K01
end
-- ==== Proof.KernelHead.lean ====
/- What the kernel's host operations before the first launch leave: the reshaped inputs and the padded weights. -/
module
public import proofs.«01_k».proof.Proof.Gen.KernelIdeal.Frame
public import proofs.«01_k».proof.Proof.Spec
public import Idealize.ShloMosaic.Lib.Pipeline.ValueKit
public import Idealize.ShloMosaic.Lib.StableHlo.ReadAt
public import Idealize.ShloMosaic.Lib.Routing.OpsSet
@[expose] public section
set_option maxRecDepth 16384
noncomputable section
namespace Cert.K01
open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The launched video. -/
abbrev vid : SV.Idx → EReal := m ((c : Thread nD τ).loc main_arg0)
/-- The launched depth maps. -/
abbrev dep : SD.Idx → EReal := m ((c : Thread nD τ).loc main_arg1)
/-- The launched motion weights. -/
abbrev wMot : SM.Idx → EReal := m ((c : Thread nD τ).loc main_arg2)
/-- The launched visibility weights. -/
abbrev wVis : SK.Idx → EReal := m ((c : Thread nD τ).loc main_arg3)

/-- The reshaped video. -/
theorem head_vid (t : Fin 8) (k : Fin 3) (y : Fin 384) (x : Fin 512) :
    V1 m ρ c main_v0 (ix4 t k y x) = vid m c (ix5 0 t k y x) := by
  unfold V1 W1
  after_reads_at

/-- The reshaped depth maps. -/
theorem head_dep (t : Fin 8) (y : Fin 384) (x : Fin 512) :
    V1 m ρ c main_v1 (ix3 t y x) = dep m c (ix5 0 t 0 y x) := by
  unfold V1 W1
  after_reads_at

/-- A scatter of a `3 × 2` table at the origin puts each of its entries at its own place. -/
theorem pad_mot (z : FVec Ideal S8x128 .f32) (idx : IVec S2 32) (w : FVec Ideal S3x2 .f32) (h : ∀ i, idx i = 0#32) (k : Fin 3) (j : Fin 2) :
    Host.scatter scatter_S8x128_S2_S3x2_01_n_01_0 (fun _ b => b) z idx w (ix2 ⟨k.val, by omega⟩ ⟨j.val, by omega⟩) = w (ix2 k j) := by
  obtain rfl : idx = fun _ => 0#32 := funext h
  have land : ∀ (u : S3x2.Idx) (i : S8x128.Idx),
      scatter_S8x128_S2_S3x2_01_n_01_0.resultIdx? u (fun _ => 0#32) = some i ↔ (u 0).val = (i 0).val ∧ (u 1).val = (i 1).val := fun u i => by
    rw [Routing.resultIdx?_eq_some, Fin.forall_fin_two]
    have hs : ∀ a, scatter_S8x128_S2_S3x2_01_n_01_0.start u (fun _ => 0#32) a = 0 := fun a => by fin_cases a <;> rfl
    have h0 : scatter_S8x128_S2_S3x2_01_n_01_0.window u 0 = (u 0).val := rfl
    have h1 : scatter_S8x128_S2_S3x2_01_n_01_0.window u 1 = (u 1).val := rfl
    rw [hs, hs, h0, h1]
    omega
  refine Routing.scatter_set_hit _ _ _ _ _ _ (fun u hu => ?_) (ix2 k j) ((land _ _).2 ⟨rfl, rfl⟩)
  obtain ⟨e0, e1⟩ := (land _ _).1 hu
  refine congrArg w (funext fun a => ?_)
  fin_cases a
  · exact Fin.ext e0
  · exact Fin.ext e1

/-- The same of a `3 × 1` table. -/
theorem pad_vis (z : FVec Ideal S8x128 .f32) (idx : IVec S2 32) (w : FVec Ideal S3x1 .f32) (h : ∀ i, idx i = 0#32) (k : Fin 3) :
    Host.scatter scatter_S8x128_S2_S3x1_01_n_01_0 (fun _ b => b) z idx w (ix2 ⟨k.val, by omega⟩ 0) = w (ix2 k 0) := by
  obtain rfl : idx = fun _ => 0#32 := funext h
  have land : ∀ (u : S3x1.Idx) (i : S8x128.Idx),
      scatter_S8x128_S2_S3x1_01_n_01_0.resultIdx? u (fun _ => 0#32) = some i ↔ (u 0).val = (i 0).val ∧ (u 1).val = (i 1).val := fun u i => by
    rw [Routing.resultIdx?_eq_some, Fin.forall_fin_two]
    have hs : ∀ a, scatter_S8x128_S2_S3x1_01_n_01_0.start u (fun _ => 0#32) a = 0 := fun a => by fin_cases a <;> rfl
    have h0 : scatter_S8x128_S2_S3x1_01_n_01_0.window u 0 = (u 0).val := rfl
    have h1 : scatter_S8x128_S2_S3x1_01_n_01_0.window u 1 = (u 1).val := rfl
    rw [hs, hs, h0, h1]
    omega
  refine Routing.scatter_set_hit _ _ _ _ _ _ (fun u hu => ?_) (ix2 k 0) ((land _ _).2 ⟨rfl, rfl⟩)
  obtain ⟨e0, e1⟩ := (land _ _).1 hu
  refine congrArg w (funext fun a => ?_)
  fin_cases a
  · exact Fin.ext e0
  · exact Fin.ext e1

/-- Two index words at zero, stacked, are zero. -/
theorem zero_words (a b : IVec S1 32) (ha : ∀ i, a i = 0#32) (hb : ∀ i, b i = 0#32) (i : S2.Idx) :
    concatenate S2 0 [⟨S1, a⟩, ⟨S1, b⟩] concatenates_S1_S1_S2_d0 i = 0#32 := by
  pointwise
  split
  · exact ha _
  · exact hb _

/-- The padded motion weights, in the entries that hold a weight. -/
theorem head_mot (k : Fin 3) (j : Fin 2) :
    V1 m ρ c main_v6 (ix2 ⟨k.val, by omega⟩ ⟨j.val, by omega⟩) = wMot m c (ix2 k j) := by
  unfold V1 W1
  after_reads_simp
  refine pad_mot _ _ _ (fun i => zero_words _ _ (fun i => ?_) (fun i => ?_) i) k j
  · after_reads_simp; rfl
  · after_reads_simp; rfl

/-- The padded visibility weights, in the entries that hold a weight. -/
theorem head_vis (k : Fin 3) :
    V1 m ρ c main_v11 (ix2 ⟨k.val, by omega⟩ 0) = wVis m c (ix2 k 0) := by
  unfold V1 W1
  after_reads_simp
  refine pad_vis _ _ _ (fun i => zero_words _ _ (fun i => ?_) (fun i => ?_) i) k
  · after_reads_simp; rfl
  · after_reads_simp; rfl

end Cert.K01
end
-- ==== Proof.KernelParams.lean ====
/- The parameter kernel's stored block: each frame's summed motion and its visibility. -/
module
public import proofs.«01_k».proof.Proof.Gen.KernelIdeal.Frame
public import proofs.«01_k».proof.Proof.Spec
public import Idealize.ShloMosaic.Lib.Pipeline.ValueKit
@[expose] public section
set_option maxRecDepth 16384
noncomputable section
namespace Cert.K01
open Idealize.ShloMosaic Cert.KernelIdeal Cert.KernelIdeal.Gen

/-- The triangular matrix's entry times a value keeps the value on and below the diagonal. -/
theorem tri_mul (s t : Fin 8) (a : EReal) :
    FloatOps.sitofp (F := Ideal) .f32 (BitVec.setWidth 32 (IntOp.cmpi .sle (BitVec.ofNat 32 s.val) (BitVec.ofNat 32 t.val))) * a
      = if s.val ≤ t.val then a else 0 := by
  have h : IntOp.cmpi .sle (BitVec.ofNat 32 s.val) (BitVec.ofNat 32 t.val) = if s.val ≤ t.val then 1#1 else 0#1 := by
    revert s t; decide
  rw [h]
  show (((BitVec.setWidth 32 _ : BitVec 32).toInt : ℝ) : EReal) * a = _
  split <;> simp

/-- The stored parameters of frame `t`, from inputs that hold the video and, in their first entries, the weights: the two summed
    motions and the visibility. -/
theorem params_apply (x0 : Vec Ideal S8x3x384x512 .f32) (x1 x2 : Vec Ideal S8x128 .f32)
    (V : SV.Idx → EReal) (A : SM.Idx → EReal) (K : SK.Idx → EReal)
    (hV : ∀ (t : Fin 8) (c : Fin 3) (y : Fin 384) (x : Fin 512), x0 (ix4 t c y x) = V (ix5 0 t c y x))
    (hA : ∀ (c : Fin 3) (k : Fin 2), x1 (ix2 ⟨c.val, by omega⟩ ⟨k.val, by omega⟩) = A (ix2 c k))
    (hK : ∀ (c : Fin 3), x2 (ix2 ⟨c.val, by omega⟩ 0) = K (ix2 c 0)) (t : Fin 8) :
    out0_3 x0 x1 x2 (ix3 t 0 0) = drift V A t 0
    ∧ out0_3 x0 x1 x2 (ix3 t 0 1) = drift V A t 1 ∧ out0_3 x0 x1 x2 (ix3 t 0 2) = visib V K t := by
  unfold out0_3
  frame_out
  pointwise [k0_pay1, k0_pay2, k0_pay5, k0_pay6, k0_pay7, k0_pay3, k0_pay4]
  simp only [tri_mul, hV]
  refine ⟨?_, ?_, ?_⟩
  · exact Finset.sum_congr rfl fun s _ => if_congr Iff.rfl
      (congrArg Ideal.tanh (Finset.sum_congr rfl fun c _ => congrArg (feat V s c * ·) (hA c 0))) rfl
  · exact Finset.sum_congr rfl fun s _ => if_congr Iff.rfl
      (congrArg Ideal.tanh (Finset.sum_congr rfl fun c _ => congrArg (feat V s c * ·) (hA c 1))) rfl
  · exact congrArg Ideal.logistic (Finset.sum_congr rfl fun c _ => congrArg (feat V t c * ·) (hK c))

end Cert.K01
end
-- ==== Proof.KernelBlock.lean ====
/- One block of the main kernel's output, read at a plane and a pixel: the nine values stored there. -/
module
public import proofs.«01_k».proof.Proof.Gen.KernelIdeal.Frame
public import proofs.«01_k».proof.Proof.Spec
public import Idealize.ShloMosaic.Lib.Pipeline.ValueKit
@[expose] public section
set_option maxRecDepth 16384
noncomputable section
namespace Cert.K01
open Idealize.ShloMosaic Cert.KernelIdeal Cert.KernelIdeal.Gen

/-- The kernel's column mask selects the first argument in the covered columns, the second in the last two. -/
theorem sel_mask {α : Type} (l : Fin 512) (a b : α) :
    Scalar.select (IntOp.cmpi .slt (BitVec.ofNat 32 l.val) 510#32) a b = if l.val < 510 then a else b := by
  have h : (BitVec.ofNat 32 l.val).toInt = l.val := by
    rw [BitVec.toInt_eq_toNat_cond, BitVec.toNat_ofNat, Nat.mod_eq_of_lt (by omega)]; split <;> omega
  simp only [Scalar.select, IntOp.cmpi, BitVec.slt_eq_decide, h]
  rw [show (510#32).toInt = 510 from rfl]
  by_cases hl : l.val < 510
  · have : (l.val : Int) < 510 := by omega
    simp [hl, this]
  · have : ¬ (l.val : Int) < 510 := by omega
    simp [hl, this]

/-- The value stored in plane `p` at pixel `(y, x)`, from the frame's shift `(dx, dy)`, visibility `vv`, channels `I` and
    depth map `Z`. -/
def plane (dx dy vv : EReal) (I : Fin 3 → Fin 384 → Fin 512 → EReal) (Z : Fin 384 → Fin 512 → EReal)
    (p : Nat) (y : Fin 384) (x : Fin 512) : EReal :=
  match p with
  | 0 => if x.val < 510 then wordReal x.val + dx else 0
  | 1 => if x.val < 510 then wordReal y.val + dy else 0
  | 2 => if x.val < 510 then bil Z (wordReal x.val + dx) (wordReal y.val + dy) else 0
  | 3 => camX (if x.val < 510 then wordReal x.val + dx else 0)
  | 4 => camY (if x.val < 510 then wordReal y.val + dy else 0)
  | 5 => if x.val < 510 then bil (I 0) (pixX (wordReal x.val + dx)) (pixY (wordReal y.val + dy)) else I 0 0 0
  | 6 => if x.val < 510 then bil (I 1) (pixX (wordReal x.val + dx)) (pixY (wordReal y.val + dy)) else I 1 0 0
  | 7 => if x.val < 510 then bil (I 2) (pixX (wordReal x.val + dx)) (pixY (wordReal y.val + dy)) else I 2 0 0
  | _ => if x.val < 510 then Scalar.select (Ideal.cmp .ogt vv (Ideal.ofBits .f32 0x3F4CCCCD#32)) 1 0 else 0

variable (y : Fin 384) (x : Fin 512)

/-- The row weights of the colour sampling. -/
theorem rows_apply (dy : EReal) (i : Fin 384) :
    k1_pay22 (F := Ideal) dy (ix2 y i) = tap 383#32 (pixY (wordReal y.val + dy)) i.val := by
  pointwise [k1_pay22]
  rfl

/-- The column weights of the colour sampling. -/
theorem cols_apply (dx : EReal) (j : Fin 512) :
    k1_pay24 (F := Ideal) dx (k1_pay23 (F := Ideal)) (iota .tc S512x512 32 [0] iota_S512x512_d0_w32) (ix2 j x)
      = tap 511#32 (pixX (wordReal x.val + dx)) j.val := by
  pointwise [k1_pay24, k1_pay23]
  rfl

/-- The sampled depth. -/
theorem depth_apply (v0 v2 : Vec Ideal S1x1x1 .f32) (Z : Vec Ideal S1x384x512 .f32)
    (hx : IsReal (v0 (ix3 0 0 0))) (hy : IsReal (v2 (ix3 0 0 0))) :
    k1_pay17 (k1_pay4 v0) k1_pay7 (iota .tc S384x384 32 [1] iota_S384x384_d1_w32) (k1_pay13 v2) (k1_pay14 v2) (k1_pay15 v2)
        (k1_pay16 v2) Z (ix2 y x)
      = if x.val < 510 then bil (fun i j => Z (ix3 0 i j)) (wordReal x.val + v0 (ix3 0 0 0)) (wordReal y.val + v2 (ix3 0 0 0)) else 0 := by
  pointwise [k1_pay17, k1_pay7, k1_pay13, k1_pay14, k1_pay15, k1_pay16, k1_pay12, k1_pay11, k1_pay10, k1_pay5, k1_pay4]
  rw [sel_mask]
  congr 1
  exact tap_tap (fun i j => Z (ix3 0 i j)) _ _ ((wordReal_real _).add hx) ((wordReal_real _).add hy)

/-- The sampled colour of one channel, from row and column weights given by the interpolation weights. -/
theorem colour_apply (R : FVec Ideal S384x384 .f32) (C : FVec Ideal S512x512 .f32) (I : Vec Ideal S1x1x384x512 .f32) (u v : EReal)
    (hu : IsReal u) (hv : IsReal v)
    (hR : ∀ i : Fin 384, R (ix2 y i) = tap 383#32 v i.val) (hC : ∀ j : Fin 512, C (ix2 j x) = tap 511#32 u j.val) :
    k1_pay31 k1_pay7 R C I (ix2 y x)
      = if x.val < 510 then bil (fun i j => I (ix4 0 0 i j)) u v else I (ix4 0 0 0 0) := by
  pointwise [k1_pay31, k1_pay7]
  rw [sel_mask]
  congr 1
  simp only [hR, hC]
  exact tap_tap (fun i j => I (ix4 0 0 i j)) _ _ hu hv

end Cert.K01
end
-- ==== Proof.KernelOut.lean ====
/- The main kernel's stored block at every plane, and the array it leaves. -/
module
public import proofs.«01_k».proof.Proof.KernelBlock
@[expose] public section
set_option maxRecDepth 16384
noncomputable section
namespace Cert.K01
open Idealize.ShloMosaic Cert.KernelIdeal Cert.KernelIdeal.Gen

/-- The frame's column shift, row shift and visibility, read where the kernel loads them. -/
theorem ld_x (x0 : Vec Ideal S1x1x128 .f32) : View.ld x0 r1_0 (ix3 0 0 0) = x0 (ix3 0 0 0) := by pointwise [r1_0]
@[inherit_doc ld_x] theorem ld_y (x0 : Vec Ideal S1x1x128 .f32) : View.ld x0 r1_1 (ix3 0 0 0) = x0 (ix3 0 0 1) := by pointwise [r1_1]
@[inherit_doc ld_x] theorem ld_v (x0 : Vec Ideal S1x1x128 .f32) : View.ld x0 r1_2 (ix3 0 0 0) = x0 (ix3 0 0 2) := by pointwise [r1_2]

/-- A stored plane, read at a pixel. -/
theorem stored (w : FVec Ideal S384x512 .f32) (a q : Fin 1) (y : Fin 384) (x : Fin 512) : k1_pay1 w (ix4 a q y x) = w (ix2 y x) := by
  pointwise [k1_pay1]

section pixel
variable (x0 : Vec Ideal S1x1x128 .f32) (y : Fin 384) (x : Fin 512)

/-- The plane of tracked columns. -/
theorem colPlane : k1_pay8 (View.ld x0 r1_0) (ix2 y x) = if x.val < 510 then wordReal x.val + x0 (ix3 0 0 0) else 0 := by
  pointwise [k1_pay8, k1_pay7, k1_pay4]
  rw [sel_mask]

/-- The plane of tracked rows. -/
theorem rowPlane : k1_pay9 (View.ld x0 r1_1) (ix2 y x) = if x.val < 510 then wordReal y.val + x0 (ix3 0 0 1) else 0 := by
  pointwise [k1_pay9, k1_pay7, k1_pay5]
  rw [sel_mask]

/-- The plane of visibilities. -/
theorem seenPlane : k1_pay19 (F := Ideal) (k1_pay18 (k1_pay6 (View.ld x0 r1_2)) k1_pay7) (Scalar.ofBits .f32 0x3F800000#32) (ix2 y x)
    = if x.val < 510 then Scalar.select (Ideal.cmp .ogt (x0 (ix3 0 0 2)) (Ideal.ofBits .f32 0x3F4CCCCD#32)) 1 0 else 0 := by
  pointwise [k1_pay19, k1_pay18, k1_pay7, k1_pay6]
  rw [← sel_mask]
  generalize IntOp.cmpi .slt (BitVec.ofNat 32 x.val) 510#32 = b
  obtain rfl | rfl : b = 0#1 ∨ b = 1#1 := by revert b; decide
  · simp [Scalar.select, IntOp.andi]
  · by_cases h : Ideal.ofBits .f32 1061997773#32 < x0 (ix3 0 0 2) <;> simp [Scalar.select, IntOp.andi, h]

end pixel

/-- The stored block, read at plane `p` and pixel `(y, x)`. -/
theorem block_apply (x0 : Vec Ideal S1x1x128 .f32) (x1 : Vec Ideal S1x3x384x512 .f32) (x2 : Vec Ideal S1x384x512 .f32)
    (hx : IsReal (x0 (ix3 0 0 0))) (hy : IsReal (x0 (ix3 0 0 1))) (p : Fin 9) (y : Fin 384) (x : Fin 512) :
    out1_3 x0 x1 x2 (ix4 0 p y x)
      = plane (x0 (ix3 0 0 0)) (x0 (ix3 0 0 1)) (x0 (ix3 0 0 2)) (fun c i j => x1 (ix4 0 c i j)) (fun i j => x2 (ix3 0 i j)) p.val y x := by
  have colour : ∀ (I : Vec Ideal S1x1x384x512 .f32) (c : Fin 3),
      (∀ i j, I (ix4 0 0 i j) = x1 (ix4 0 c i j)) →
      k1_pay31 k1_pay7 (k1_pay22 (k1_pay5 (View.ld x0 r1_1)))
        (k1_pay24 (k1_pay4 (View.ld x0 r1_0)) k1_pay23 (iota Kind.tc S512x512 32 [0] iota_S512x512_d0_w32)) I (ix2 y x)
      = if x.val < 510 then bil (fun i j => x1 (ix4 0 c i j)) (pixX (wordReal x.val + x0 (ix3 0 0 0))) (pixY (wordReal y.val + x0 (ix3 0 0 1)))
        else x1 (ix4 0 c 0 0) := fun I c hI => by
    have h := colour_apply y x _ _ I _ _ (pixX_real ((wordReal_real x.val).add hx)) (pixY_real ((wordReal_real y.val).add hy))
      (fun i => rows_apply y _ i) (fun j => cols_apply x _ j)
    rw [← funext₂ hI, ← hI]
    refine Eq.trans ?_ h
    simp only [k1_pay4, k1_pay5]
    rw [show extractAt ![0, 0, 0] (View.ld x0 r1_0) inpos_S1x1x1_p0_0_0 = x0 (ix3 0 0 0) from by pointwise [r1_0],
      show extractAt ![0, 0, 0] (View.ld x0 r1_1) inpos_S1x1x1_p0_0_0 = x0 (ix3 0 0 1) from by pointwise [r1_1]]
  unfold_out out1_3
  canon_tiles u h
  all_goals obtain ⟨a, q, y', x', rfl⟩ : ∃ (a : Fin 1) (q : Fin 1) (y' : Fin 384) (x' : Fin 512), u = ix4 a q y' x' :=
    ⟨u 0, u 1, u 2, u 3, by funext i; fin_cases i <;> rfl⟩
  all_goals obtain rfl : y = y' := Fin.ext h2
  all_goals obtain rfl : x = x' := Fin.ext (by simpa using h3)
  · obtain rfl : p = 8 := Fin.ext (by simpa using h1)
    exact (stored ..).trans (seenPlane ..)
  · obtain rfl : p = 7 := Fin.ext (by simpa using h1)
    exact (stored ..).trans (colour _ 2 fun i j => by pointwise [r1_13])
  · obtain rfl : p = 6 := Fin.ext (by simpa using h1)
    exact (stored ..).trans (colour _ 1 fun i j => by pointwise [r1_11])
  · obtain rfl : p = 5 := Fin.ext (by simpa using h1)
    exact (stored ..).trans (colour _ 0 fun i j => by pointwise [r1_9])
  · obtain rfl : p = 4 := Fin.ext (by simpa using h1)
    refine (stored ..).trans ?_
    pointwise [k1_pay21]
    rw [rowPlane]; rfl
  · obtain rfl : p = 3 := Fin.ext (by simpa using h1)
    refine (stored ..).trans ?_
    pointwise [k1_pay20]
    rw [colPlane]; rfl
  · obtain rfl : p = 2 := Fin.ext (by simpa using h1)
    refine (stored ..).trans ((depth_apply y x _ _ _ (by rw [ld_x]; exact hx) (by rw [ld_y]; exact hy)).trans ?_)
    rw [ld_x, ld_y]
    have hz : (fun i j => View.ld x2 r1_3 (ix3 0 i j)) = fun i j => x2 (ix3 0 i j) := by funext i j; pointwise [r1_3]
    rw [hz]; rfl
  · obtain rfl : p = 1 := Fin.ext (by simpa using h1)
    exact (stored ..).trans (rowPlane ..)
  · obtain rfl : p = 0 := Fin.ext (by simpa using h1)
    exact (stored ..).trans (colPlane ..)

end Cert.K01
end
-- ==== Proof.KernelArrays.lean ====
/- The arrays that the two launches leave. -/
module
public import proofs.«01_k».proof.Proof.KernelHead
public import proofs.«01_k».proof.Proof.KernelParams
public import proofs.«01_k».proof.Proof.KernelOut
@[expose] public section
set_option maxRecDepth 16384
noncomputable section
namespace Cert.K01
open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The one point's blocks lie at the origin. -/
theorem place : ∀ t : Fin cfg0.N, win0_0.index t = ![0, 0, 0, 0] ∧ win0_1.index t = ![0, 0] ∧ win0_2.index t = ![0, 0] :=
  (by decide +kernel : ∀ t : Fin grid0.N, _)

/-- The parameter array: the parameter kernel's block of its whole inputs. -/
theorem params_array : V2 m ρ c main_v12 = out0_3 (V1 m ρ c main_v0) (V1 m ρ c main_v6) (V1 m ρ c main_v11) := by
  refine (W2_arr m ρ c 3).trans ?_
  refine (dat0 (V1 m ρ) c).arrAt_eq_of_after_last 3 t0_0 (by decide +kernel) _ fun j => ?_
  blk_simp
  rw [after0_3]
  have e0 : iblk0 (V1 m ρ) c 0 t0_0 = V1 m ρ c main_v0 := by blk_ext! [iblk0, place t0_0]
  have e1 : iblk0 (V1 m ρ) c 1 t0_0 = V1 m ρ c main_v6 := by blk_ext! [iblk0, place t0_0]
  have e2 : iblk0 (V1 m ρ) c 2 t0_0 = V1 m ρ c main_v11 := by blk_ext! [iblk0, place t0_0]
  rw [e0, e1, e2]

/-- The parameters of frame `t`. -/
theorem params_at (t : Fin 8) : V2 m ρ c main_v12 (ix3 t 0 0) = drift (vid m c) (wMot m c) t 0
    ∧ V2 m ρ c main_v12 (ix3 t 0 1) = drift (vid m c) (wMot m c) t 1 ∧ V2 m ρ c main_v12 (ix3 t 0 2) = visib (vid m c) (wVis m c) t := by
  rw [params_array]
  exact params_apply _ _ _ _ _ _ (fun t k y x => head_vid m ρ c t k y x) (fun k j => head_mot m ρ c k j) (fun k => head_vis m ρ c k) t

/-- The blocks' places: frame `t` at point `t`. -/
theorem places : ∀ t : Fin cfg1.N, win1_0.index t = ![t.val, 0, 0] ∧ win1_1.index t = ![t.val, 0, 0, 0] ∧ win1_2.index t = ![t.val, 0, 0]
    ∧ win1_3.index t = ![t.val, 0, 0, 0] ∧ t.val < 8 := (by decide +kernel : ∀ t : Fin grid1.N, _)

/-- The video is the reshaped one at the second launch. -/
theorem second_vid (t : Fin 8) (k : Fin 3) (y : Fin 384) (x : Fin 512) : V2 m ρ c main_v0 (ix4 t k y x) = vid m c (ix5 0 t k y x) := by
  rw [show V2 m ρ c main_v0 = V1 m ρ c main_v0 from W2_of m ρ c main_v0 (by decide)]
  exact head_vid m ρ c t k y x

/-- So are the depth maps. -/
theorem second_dep (t : Fin 8) (y : Fin 384) (x : Fin 512) : V2 m ρ c main_v1 (ix3 t y x) = dep m c (ix5 0 t 0 y x) := by
  rw [show V2 m ρ c main_v1 = V1 m ρ c main_v1 from W2_of m ρ c main_v1 (by decide)]
  exact head_dep m ρ c t y x

/-- The nine planes of every frame. -/
def planes : S8x9x384x512.Idx → EReal := fun i =>
  plane (drift (vid m c) (wMot m c) (i 0) 0) (drift (vid m c) (wMot m c) (i 0) 1) (visib (vid m c) (wVis m c) (i 0))
    (chanIm (vid m c) (i 0)) (depthIm (dep m c) (i 0)) (i 1).val (i 2) (i 3)

/-- The main kernel's array. -/
theorem main_array : V3 m ρ c main_v13 = planes m c := by
  refine (W3_arr m ρ c 3).trans ?_
  refine (dat1 (V2 m ρ) c).arrAt_eq_of_covers 3 _ (by decide +kernel) fun t hf y => ?_
  blk_simp
  rw [after1_3]
  obtain ⟨a, p, i, j, rfl⟩ : ∃ (a : Fin 1) (p : Fin 9) (i : Fin 384) (j : Fin 512), y = ix4 a p i j :=
    ⟨y 0, y 1, y 2, y 3, by funext i; fin_cases i <;> rfl⟩
  obtain rfl : a = 0 := Subsingleton.elim _ _
  obtain ⟨q0, q1, q2, q3, lt⟩ := places t
  have b0 : ∀ k : Fin 128, iblk1 (V2 m ρ) c 0 t (ix3 0 0 k) = V2 m ρ c main_v12 (ix3 ⟨t.val, lt⟩ 0 k) := fun k => by
    blk_ext [iblk1, places t]
  have b1 : ∀ (k : Fin 3) (i : Fin 384) (j : Fin 512), iblk1 (V2 m ρ) c 1 t (ix4 0 k i j) = V2 m ρ c main_v0 (ix4 ⟨t.val, lt⟩ k i j) :=
    fun k i j => by blk_ext [iblk1, places t]
  have b2 : ∀ (i : Fin 384) (j : Fin 512), iblk1 (V2 m ρ) c 2 t (ix3 0 i j) = V2 m ρ c main_v1 (ix3 ⟨t.val, lt⟩ i j) :=
    fun i j => by blk_ext [iblk1, places t]
  obtain ⟨p0, p1, p2⟩ := params_at m ρ c ⟨t.val, lt⟩
  have key := block_apply (iblk1 (V2 m ρ) c 0 t) (iblk1 (V2 m ρ) c 1 t) (iblk1 (V2 m ρ) c 2 t)
    (by rw [b0, p0]; exact drift_real ..) (by rw [b0, p1]; exact drift_real ..) p i j
  refine key.trans ?_
  rw [b0, b0, b0, p0, p1, p2]
  have f1 : (fun k i j => iblk1 (V2 m ρ) c 1 t (ix4 0 k i j)) = chanIm (vid m c) ⟨t.val, lt⟩ := by
    funext k i j; rw [b1]; exact second_vid m ρ c _ k i j
  have f2 : (fun i j => iblk1 (V2 m ρ) c 2 t (ix3 0 i j)) = depthIm (dep m c) ⟨t.val, lt⟩ := by
    funext i j; rw [b2]; exact second_dep m ρ c _ i j
  rw [f1, f2]
  have e : ((cfg1.win 3).blk t).view.emb (ix4 0 p i j) = (ix4 ⟨t.val, lt⟩ p i j : S8x9x384x512.Idx) := by
    blk_ext [places t]
  rw [e]
  rfl

end Cert.K01
end
-- ==== Proof.KernelTail.lean ====
/- The five results, read off the main kernel's array by the host operations after it. -/
module
public import proofs.«01_k».proof.Proof.KernelArrays
@[expose] public section
set_option maxRecDepth 16384
noncomputable section
namespace Cert.K01
open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The main kernel's array at the last host operations' entry. -/
theorem entry : W3 m ρ c (Proc.devRef .tc main_v13) = planes m c := main_array m ρ c

section planes
variable (t : Fin 8) (y : Fin 384) (x : Fin 512)

/-- Planes 0 to 4 hold the track's column, row and depth, and its two camera coordinates. -/
theorem plane0 : planes m c (ix4 t 0 y x) = trackX (vid m c) (wMot m c) t x := rfl
@[inherit_doc plane0] theorem plane1 : planes m c (ix4 t 1 y x) = trackY (vid m c) (wMot m c) t y x := rfl
@[inherit_doc plane0] theorem plane2 : planes m c (ix4 t 2 y x) = trackD (vid m c) (dep m c) (wMot m c) t y x := rfl
@[inherit_doc plane0] theorem plane3 : planes m c (ix4 t 3 y x) = camX (trackX (vid m c) (wMot m c) t x) := rfl
@[inherit_doc plane0] theorem plane4 : planes m c (ix4 t 4 y x) = camY (trackY (vid m c) (wMot m c) t y x) := rfl

/-- A colour plane's value is the video sampled at the track, in the uncovered columns too: there the track is the origin. -/
theorem colour_eq (V : SV.Idx → EReal) (A : SM.Idx → EReal) (k : Fin 3) :
    (if x.val < 510 then bil (chanIm V t k) (pixX (wordReal x.val + drift V A t 0)) (pixY (wordReal y.val + drift V A t 1))
      else chanIm V t k 0 0) = colour V A t k y x := by
  unfold colour trackX trackY colAt rowAt
  split
  · rfl
  · rw [pixX_zero, pixY_zero, bil_zero]

/-- Planes 5 to 7 hold the track's colour. -/
theorem plane5 : planes m c (ix4 t 5 y x) = colour (vid m c) (wMot m c) t 0 y x := colour_eq t y x _ _ 0
@[inherit_doc plane5] theorem plane6 : planes m c (ix4 t 6 y x) = colour (vid m c) (wMot m c) t 1 y x := colour_eq t y x _ _ 1
@[inherit_doc plane5] theorem plane7 : planes m c (ix4 t 7 y x) = colour (vid m c) (wMot m c) t 2 y x := colour_eq t y x _ _ 2

/-- A bit as a float: one or zero. -/
theorem bit_float (b : BitVec 1) : FloatOps.uitofp (F := Ideal) .f32 b = Scalar.select b 1 0 := by
  obtain rfl | rfl : b = 0#1 ∨ b = 1#1 := by revert b; decide
  · show (((0#1 : BitVec 1).toNat : ℝ) : EReal) = _
    simp [Scalar.select]
  · show (((1#1 : BitVec 1).toNat : ℝ) : EReal) = _
    simp [Scalar.select]

/-- One half is what its word denotes. -/
theorem half_word : Ideal.ofBits .f32 0x3F000000#32 = ((1 / 2 : ℝ) : EReal) := by
  simp [Ideal.ofBits, Ideal.ieee, -EReal.coe_mul]; norm_num

/-- A bit as a float is above one half exactly when it is set. -/
theorem bit_above (b : BitVec 1) :
    BitVec.ofBool (decide (Ideal.ofBits .f32 0x3F000000#32 < FloatOps.uitofp (F := Ideal) .f32 b)) = b := by
  rw [bit_float, half_word]
  obtain rfl | rfl : b = 0#1 ∨ b = 1#1 := by revert b; decide
  · refine congrArg BitVec.ofBool (decide_eq_false ?_)
    show ¬ ((1 / 2 : ℝ) : EReal) < 0
    rw [← EReal.coe_zero, EReal.coe_lt_coe_iff]; norm_num
  · refine congrArg BitVec.ofBool (decide_eq_true ?_)
    show ((1 / 2 : ℝ) : EReal) < 1
    rw [← EReal.coe_one, EReal.coe_lt_coe_iff]; norm_num

/-- Plane 8 holds the track's visibility bit as a float. -/
theorem plane8 : planes m c (ix4 t 8 y x) = FloatOps.uitofp (F := Ideal) .f32 (trackB (vid m c) (wVis m c) t x) := by
  rw [bit_float]
  show (if x.val < 510 then _ else _) = _
  unfold trackB
  split
  · rfl
  · rfl

end planes

/-- The kernel's first result. -/
theorem tail0 : W4 m ρ c (Proc.devRef .tc main_v37) = G0 (vid m c) (wMot m c) := by
  funext i
  obtain ⟨a, t, n, k, rfl⟩ : ∃ (a : Fin 1) (t : Fin 8) (n : Fin 12288) (k : Fin 2), i = ix4 a t n k :=
    ⟨i 0, i 1, i 2, i 3, by funext a; fin_cases a <;> rfl⟩
  unfold W4
  after_reads_at
  show _ = if k.val < 1 then _ else _
  split
  · after_reads_at
    rw [entry]
    exact plane0 ..
  · after_reads_at
    rw [entry]
    exact plane1 ..

/-- The kernel's second result. -/
theorem tail1 : W4 m ρ c (Proc.devRef .tc main_v41) = G1 (vid m c) (wMot m c) := by
  funext i
  obtain ⟨a, t, n, k, rfl⟩ : ∃ (a : Fin 1) (t : Fin 8) (n : Fin 196608) (k : Fin 2), i = ix4 a t n k :=
    ⟨i 0, i 1, i 2, i 3, by funext a; fin_cases a <;> rfl⟩
  unfold W4
  after_reads_at
  show _ = if k.val < 1 then _ else _
  split
  · after_reads_at
    rw [entry]
    exact plane0 ..
  · after_reads_at
    rw [entry]
    exact plane1 ..

/-- The kernel's third result. -/
theorem tail2 : W4 m ρ c (Proc.devRef .tc main_v42) = G2 (vid m c) (dep m c) (wMot m c) := by
  funext i
  obtain ⟨a, t, n, k, rfl⟩ : ∃ (a : Fin 1) (t : Fin 8) (n : Fin 196608) (k : Fin 1), i = ix4 a t n k :=
    ⟨i 0, i 1, i 2, i 3, by funext a; fin_cases a <;> rfl⟩
  unfold W4
  after_reads_at
  rw [entry]
  exact plane2 ..

/-- The kernel's fourth result. -/
theorem tail3 : W4 m ρ c (Proc.devRef .tc main_v45) = G3 (vid m c) (wVis m c) := by
  funext i
  obtain ⟨a, t, n, rfl⟩ : ∃ (a : Fin 1) (t : Fin 8) (n : Fin 196608), i = ix3 a t n :=
    ⟨i 0, i 1, i 2, by funext a; fin_cases a <;> rfl⟩
  unfold W4
  after_reads_at
  rw [entry, plane8, bit_above]
  rfl

/-- The kernel's fifth result. -/
theorem tail4 : W4 m ρ c (Proc.devRef .tc main_v54) = G4 (vid m c) (dep m c) (wMot m c) (wVis m c) := by
  funext i
  obtain ⟨t, n, k, rfl⟩ : ∃ (t : Fin 8) (n : Fin 196608) (k : Fin 7), i = ix3 t n k :=
    ⟨i 0, i 1, i 2, by funext a; fin_cases a <;> rfl⟩
  unfold W4
  after_reads_at
  fin_cases k
  · rw [dif_pos (by decide)]; after_reads_at; rw [entry]; exact plane3 ..
  · rw [dif_neg (by decide), dif_pos (by decide)]; after_reads_at; rw [entry]; exact plane4 ..
  · rw [dif_neg (by decide), dif_neg (by decide), dif_pos (by decide)]; after_reads_at; rw [entry]; exact plane2 ..
  · rw [dif_neg (by decide), dif_neg (by decide), dif_neg (by decide), dif_pos (by decide)]; after_reads_at; rw [entry]; exact plane5 ..
  · rw [dif_neg (by decide), dif_neg (by decide), dif_neg (by decide), dif_neg (by decide), dif_pos (by decide)]
    after_reads_at; rw [entry]; exact plane6 ..
  · rw [dif_neg (by decide), dif_neg (by decide), dif_neg (by decide), dif_neg (by decide), dif_neg (by decide), dif_pos (by decide)]
    after_reads_at; rw [entry]; exact plane7 ..
  · rw [dif_neg (by decide), dif_neg (by decide), dif_neg (by decide), dif_neg (by decide), dif_neg (by decide), dif_neg (by decide)]
    after_reads_at; rw [entry]; exact plane8 ..

end Cert.K01
end
-- ==== Proof.KernelRun.lean ====
/- The kernel's run, ending with the five results as the specification writes them. -/
module
public import proofs.«01_k».proof.Proof.KernelTail
@[expose] public section
set_option maxRecDepth 16384
noncomputable section
namespace Cert.K01
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The model the launch is reasoned about in. -/
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair execution of the kernel ends with each of the five result arrays at its last boundary contents and the arguments as launched. -/
theorem kernel_ends : θ_run defs (onTc (τ := τ) (main (F := Ideal))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_v41) = W4 m ρ c (Proc.devRef .tc main_v41)
      ∧ r.2.mem ((c.tc : Thread nD τ).loc main_v42) = W4 m ρ c (Proc.devRef .tc main_v42)
      ∧ r.2.mem ((c.tc : Thread nD τ).loc main_v45) = W4 m ρ c (Proc.devRef .tc main_v45)
      ∧ r.2.mem ((c.tc : Thread nD τ).loc main_v54) = W4 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v37 (by decide)),
       h c _ (mem_uc main_v41 (by decide)),
       h c _ (mem_uc main_v42 (by decide)),
       h c _ (mem_uc main_v45 (by decide)),
       h c _ (mem_uc main_v54 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- Every fair execution of the kernel ends with the five results the specification names, the arguments as launched. -/
theorem kernel_run : θ_run defs (onTc (τ := τ) (main (F := Ideal))) ⟨m, fun _ => 0, ρ⟩ (fun r => ∀ c : Dev nD,
      r.2.mem ((c.tc : Thread nD τ).loc main_v37) = G0 (vid m c) (wMot m c)
      ∧ r.2.mem ((c.tc : Thread nD τ).loc main_v41) = G1 (vid m c) (wMot m c)
      ∧ r.2.mem ((c.tc : Thread nD τ).loc main_v42) = G2 (vid m c) (dep m c) (wMot m c)
      ∧ r.2.mem ((c.tc : Thread nD τ).loc main_v45) = G3 (vid m c) (wVis m c)
      ∧ r.2.mem ((c.tc : Thread nD τ).loc main_v54) = G4 (vid m c) (dep m c) (wMot m c) (wVis m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1.trans (tail0 m ρ c), (h c).2.1.trans (tail1 m ρ c), (h c).2.2.1.trans (tail2 m ρ c), (h c).2.2.2.1.trans (tail3 m ρ c),
      (h c).2.2.2.2.1.trans (tail4 m ρ c), (h c).2.2.2.2.2⟩) (kernel_ends m ρ)

end Cert.K01
end
-- ==== Proof.RefPoints.lean ====
/- The reference's points and their motion: where point `k` starts, how far frame `t` carries it, and how visible the frame is. -/
module
public import proofs.«01_k».proof.Proof.Gen.ReferenceIdeal.Read
public import proofs.«01_k».proof.Proof.Spec
@[expose] public section
set_option maxRecDepth 16384
noncomputable section
namespace Cert.K01
open Idealize.ShloMosaic Cert.ReferenceIdeal Cert.ReferenceIdeal.Gen Cert.ReferenceIdeal.Read

/-- The column of point `k`: the base column of its cell plus its offset within the cell. -/
def px (k : Nat) : Nat := k % 5440 % 85 * 6 + k / 5440 % 6
/-- The row of point `k`. -/
def py (k : Nat) : Nat := k % 5440 / 85 * 6 + k / 5440 / 6

/-- The columns stay below 510. -/
theorem px_lt (k : Fin 195840) : px k.val < 510 := by have := k.isLt; unfold px; omega
/-- The rows stay below 384. -/
theorem py_lt (k : Fin 195840) : py k.val < 384 := by have := k.isLt; unfold py; omega

/-- The point that covers pixel `(y, x)`. -/
def pointOf (y : Fin 384) (x : Fin 512) (h : x.val < 510) : Fin 195840 :=
  ⟨(y.val % 6 * 6 + x.val % 6) * 5440 + (y.val / 6 * 85 + x.val / 6), by have := y.isLt; omega⟩

/-- It covers that column. -/
theorem px_pointOf (y : Fin 384) (x : Fin 512) (h : x.val < 510) : px (pointOf y x h).val = x.val := by
  have := y.isLt
  have e1 : (pointOf y x h).val % 5440 = y.val / 6 * 85 + x.val / 6 := by unfold pointOf; dsimp only; omega
  have e2 : (pointOf y x h).val / 5440 = y.val % 6 * 6 + x.val % 6 := by unfold pointOf; dsimp only; omega
  unfold px
  rw [e1, e2]
  clear e1 e2
  omega
/-- It covers that row. -/
theorem py_pointOf (y : Fin 384) (x : Fin 512) (h : x.val < 510) : py (pointOf y x h).val = y.val := by
  have := y.isLt
  have e1 : (pointOf y x h).val % 5440 = y.val / 6 * 85 + x.val / 6 := by unfold pointOf; dsimp only; omega
  have e2 : (pointOf y x h).val / 5440 = y.val % 6 * 6 + x.val % 6 := by unfold pointOf; dsimp only; omega
  unfold py
  rw [e1, e2]
  clear e1 e2
  omega

/-- The columns as the reference computes them. -/
theorem v23_at (k : Fin 195840) : val_main_v23 (F := Ideal) (ix1 k) = BitVec.ofNat 32 (px k.val) := by
  have := k.isLt
  pointwise [val_main_v23, val_main_v22, val_main_v20, val_main_v21, val_main_v18, val_main_v19, val_main_v5, val_main_v4, val_main_c,
    val_main_v3, val_main_v2, val_main_v1, val_main_v0, val_main_v14, val_main_v13, val_main_v12, val_main_v11]
  simp only [IntOp.addi, IntOp.muli, px]
  bv_omega

/-- The rows as the reference computes them. -/
theorem v29_at (k : Fin 195840) : val_main_v29 (F := Ideal) (ix1 k) = BitVec.ofNat 32 (py k.val) := by
  have := k.isLt
  pointwise [val_main_v29, val_main_v28, val_main_v26, val_main_v27, val_main_v24, val_main_v25, val_main_v10, val_main_v9, val_main_c_0,
    val_main_v8, val_main_v7, val_main_v6, val_main_v17, val_main_v16, val_main_v15]
  simp only [IntOp.addi, IntOp.muli, py]
  bv_omega

/-- A sum over a fold's positions. -/
theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window of eight, padded low by seven and ending at `t`, sums the terms up to `t`. -/
theorem window_sum (f : Fin 8 → EReal) (t : Fin 8) :
    (∑ q : Fin 8, if h : 7 ≤ t.val + q.val then f ⟨t.val + q.val - 7, by omega⟩ else 0) = ∑ s : Fin 8, if s.val ≤ t.val then f s else 0 := by
  rw [← Equiv.sum_comp (Equiv.addRight (t + 1)) (fun s : Fin 8 => if s.val ≤ t.val then f s else 0)]
  refine Finset.sum_congr rfl fun q _ => ?_
  have hv : (q + (t + 1)).val = (q.val + (t.val + 1) % 8) % 8 := by simp [Fin.val_add]
  have := q.isLt
  have := t.isLt
  show _ = if (q + (t + 1)).val ≤ t.val then f (q + (t + 1)) else 0
  split
  · next h =>
    rw [if_pos (by omega)]
    exact congrArg f (Fin.ext (by rw [hv]; dsimp only; omega))
  · next h => rw [if_neg (by omega)]

/-- The reference's running sum over the frames. -/
theorem running (x : S1x8x2.Idx → EReal) (v : S_.Idx → EReal) (hv : ∀ i, v i = 0) (t : Fin 8) (j : Fin 2) :
    Host.reduceWindowAdd (F := Ideal) (φ := .f32) ![1, 8, 1] ![1, 1, 1] ![0, 7, 0] ![0, 0, 0] x v reduceWindows_S1x8x2_S1x8x2_w1s1p0_0_w8s1p7_0_w1s1p0_0 h_S_
      (ix3 0 t j) = ∑ s : Fin 8, if s.val ≤ t.val then x (ix3 0 s j) else 0 := by
  have e : Host.reduceWindowAdd (F := Ideal) (φ := .f32) ![1, 8, 1] ![1, 1, 1] ![0, 7, 0] ![0, 0, 0] x v reduceWindows_S1x8x2_S1x8x2_w1s1p0_0_w8s1p7_0_w1s1p0_0 h_S_ (ix3 0 t j)
      = Ideal.hostReduceWindowAdd ![1, 8, 1] ![1, 1, 1] ![0, 7, 0] ![0, 0, 0] reduceWindows_S1x8x2_S1x8x2_w1s1p0_0_w8s1p7_0_w1s1p0_0 x 0 (ix3 0 t j) := by
    rw [← hv (Shape.Idx.first h_S_)]; rfl
  rw [e]
  unfold Ideal.hostReduceWindowAdd Host.reduceWindow
  rw [foldl_sum, zero_add, ← List.ofFn_eq_map, List.sum_ofFn]
  have b1 : ∀ p : (⟨3, ![1, 8, 1]⟩ : Shape).Idx, (p 1).val < 8 := fun p => (p 1).isLt
  have b0 : ∀ p : (⟨3, ![1, 8, 1]⟩ : Shape).Idx, (p 0).val = 0 := fun p => by have : (p 0).val < 1 := (p 0).isLt; omega
  have b2 : ∀ p : (⟨3, ![1, 8, 1]⟩ : Shape).Idx, (p 2).val = 0 := fun p => by have : (p 2).val < 1 := (p 2).isLt; omega
  let W : (⟨3, ![1, 8, 1]⟩ : Shape).Idx → EReal := fun p =>
    if h : 7 ≤ t.val + (p 1).val then x (ix3 0 ⟨t.val + (p 1).val - 7, by have := b1 p; omega⟩ j) else 0
  refine (Finset.sum_congr rfl fun n _ => ?_).trans ((Equiv.sum_comp (Shape.rowMajor ⟨3, ![1, 8, 1]⟩).symm W).trans ?_)
  · let p := (Shape.rowMajor ⟨3, ![1, 8, 1]⟩).symm n
    show _ = if h : 7 ≤ t.val + (p 1).val then x (ix3 0 ⟨t.val + (p 1).val - 7, by have := b1 p; omega⟩ j) else 0
    split
    · next hin =>
      have h1 := (hin 1).1
      change 7 ≤ t.val * 1 + (p 1).val at h1
      rw [dif_pos (by omega)]
      refine congrArg x (funext fun a => Fin.ext ?_)
      match a with
      | ⟨0, _⟩ => show 0 * 1 + (p 0).val - 0 = 0; rw [b0]
      | ⟨1, _⟩ => show t.val * 1 + (p 1).val - 7 = t.val + (p 1).val - 7; omega
      | ⟨2, _⟩ => show j.val * 1 + (p 2).val - 0 = j.val; rw [b2]; omega
    · next hin =>
      rw [dif_neg fun h => hin fun a => ?_]
      match a with
      | ⟨0, _⟩ => show 0 ≤ 0 * 1 + (p 0).val ∧ 0 * 1 + (p 0).val - 0 < 1; rw [b0]; omega
      | ⟨1, _⟩ => show 7 ≤ t.val * 1 + (p 1).val ∧ t.val * 1 + (p 1).val - 7 < 8; have := b1 p; omega
      | ⟨2, _⟩ => show 0 ≤ j.val * 1 + (p 2).val ∧ j.val * 1 + (p 2).val - 0 < 2; rw [b2]; have := j.isLt; omega
  rw [Idealize.ShloMosaic.sum_idx3]
  have hW : ∀ q : Fin 8, W (ix3 0 q 0) = if h : 7 ≤ t.val + q.val then x (ix3 0 ⟨t.val + q.val - 7, by omega⟩ j) else 0 := fun _ => rfl
  simp only [Fin.sum_univ_one, hW]
  exact window_sum (fun s => x (ix3 0 s j)) t

/-- The value `v40` is the frame means. -/
theorem v40_at (V : SV.Idx → EReal) (t : Fin 8) (k : Fin 3) : val_main_v40 (F := Ideal) V (ix3 0 t k) = feat V t k := by
  have h0 : ∑ i ∈ Finset.univ.filter (fun i => reducesTo_S1x8x3x384x512_S1x8x3_d3_4.drop i = (ix3 0 t k : S1x8x3.Idx)), V i = ∑ y : Fin 384, ∑ x : Fin 512, V (ix5 0 t k y x) := by
    refine (Finset.sum_filter_eq_sum_of_fiber _ (fun q : Fin 384 × Fin 512 => (ix5 0 t k q.1 q.2 : SV.Idx))
      (fun _ _ e => Prod.ext (congrFun e 3) (congrFun e 4)) (fun i => ?_) V).trans ?_
    · constructor
      · intro e
        refine ⟨(i 3, i 4), ?_⟩
        funext a; apply Fin.ext
        match a with
        | ⟨0, _⟩ => exact (congrArg Fin.val (congrFun e 0)).symm
        | ⟨1, _⟩ => exact (congrArg Fin.val (congrFun e 1)).symm
        | ⟨2, _⟩ => exact (congrArg Fin.val (congrFun e 2)).symm
        | ⟨3, _⟩ => rfl
        | ⟨4, _⟩ => rfl
      · rintro ⟨q, rfl⟩
        funext b
        apply Fin.ext
        match b with
        | ⟨0, _⟩ => rfl
        | ⟨1, _⟩ => rfl
        | ⟨2, _⟩ => rfl
    · rw [Fintype.sum_prod_type]
  have h1 : val_main_v38 (F := Ideal) V (ix3 0 t k) = ∑ y : Fin 384, ∑ x : Fin 512, V (ix5 0 t k y x) := by
    have e : val_main_v38 (F := Ideal) V (ix3 0 t k) = val_main_cst_2 (F := Ideal) (Shape.Idx.first h_S_) + ∑ i ∈ Finset.univ.filter (fun i => reducesTo_S1x8x3x384x512_S1x8x3_d3_4.drop i = (ix3 0 t k : S1x8x3.Idx)), V i := rfl
    rw [e, h0]
    pointwise [val_main_cst_2]
  pointwise [val_main_v40, val_main_v39, val_main_cst_3]
  rw [h1]
  rfl

/-- `v42` is each frame's motion. -/
theorem v42_at (V : SV.Idx → EReal) (A : SM.Idx → EReal) (t : Fin 8) (k : Fin 2) : val_main_v42 (F := Ideal) V A (ix3 0 t k) = step V A t k := by
  pointwise [val_main_v42, val_main_v41]
  simp only [v40_at]
  rfl

/-- `v43` is the summed motion. -/
theorem v43_at (V : SV.Idx → EReal) (A : SM.Idx → EReal) (t : Fin 8) (k : Fin 2) : val_main_v43 (F := Ideal) V A (ix3 0 t k) = drift V A t k := by
  unfold val_main_v43
  rw [running]
  · simp only [v42_at]; rfl
  · intro i
    pointwise [val_main_call0_call0_v0, val_main_call0_call0_cst]

/-- `v57` is the visibility. -/
theorem v57_at (V : SV.Idx → EReal) (K : SK.Idx → EReal) (t : Fin 8) (k : Fin 195840) : val_main_v57 (F := Ideal) V K (ix3 0 t k) = visib V K t := by
  pointwise [val_main_v57, val_main_v56, val_main_v55, val_main_cst_5, val_main_v54, val_main_v53, val_main_cst_4, val_main_v52, val_main_v51, val_main_v50]
  simp only [v40_at]
  rfl

/-- `v49` is where point `k` lies in frame `t`. -/
theorem v49_at (V : SV.Idx → EReal) (A : SM.Idx → EReal) (t : Fin 8) (k : Fin 195840) :
    val_main_v49 (F := Ideal) V A (ix4 0 t k 0) = colAt V A t (px k.val)
    ∧ val_main_v49 (F := Ideal) V A (ix4 0 t k 1) = rowAt V A t (py k.val) := by
  constructor
  · pointwise [val_main_v49, val_main_v48, val_main_v47, val_main_v46, val_main_v45, val_main_v44, val_main_v37, val_main_v36]
    pointwise [val_main_v34, val_main_v31]
    rw [v43_at, v23_at]
    rfl
  · pointwise [val_main_v49, val_main_v48, val_main_v47, val_main_v46, val_main_v45, val_main_v44, val_main_v37, val_main_v36]
    pointwise [val_main_v35, val_main_v32]
    rw [v43_at, v29_at]
    rfl

end Cert.K01
end
-- ==== Proof.RefGather.lean ====
/- The reference's gather of image values at clipped row and column words. -/
module
public import proofs.«01_k».proof.Proof.Bilinear
@[expose] public section
set_option maxRecDepth 16384
noncomputable section
namespace Cert.K01
open Idealize.ShloMosaic

/-- The gather of `N` samples per frame from `C`-channel images: the first two axes stay, the last two are indexed. -/
abbrev sampleDims (C N : Nat)
    (wf : GatherDims.WF ⟨4, ![8, C, 384, 512]⟩ ⟨3, ![8, N, 2]⟩ ⟨3, ![8, C, N]⟩ [1] [2, 3] [0] [2, 3] [0] 2 ![1, C, 1, 1]) :
    GatherDims ⟨4, ![8, C, 384, 512]⟩ ⟨3, ![8, N, 2]⟩ ⟨3, ![8, C, N]⟩ where
  offsetDims := [1]
  collapsedSliceDims := [2, 3]
  operandBatchingDims := [0]
  startIndicesBatchingDims := [0]
  startIndexMap := [2, 3]
  indexVectorDim := 2
  sliceSizes := ![1, C, 1, 1]
  wf := wf

/-- A word below `2 ^ 31`, read signed, is itself. -/
theorem toInt_small (w : BitVec 32) (h : w.toNat < 2 ^ 31) : w.toInt.toNat = w.toNat := by
  rw [BitVec.toInt_eq_toNat_cond, if_pos (by omega)]; rfl

/-- A word below `2 ^ 31` is left as it is by the wrap of negative indices. -/
theorem wrap_small (w z : BitVec 32) (h : w.toNat < 2 ^ 31) : Scalar.select (IntOp.cmpi .slt w 0#32) z w = w := by
  have e : w.slt 0#32 = false := by
    rw [BitVec.slt_eq_decide, BitVec.toInt_eq_toNat_cond, if_pos (by omega)]
    exact decide_eq_false (by show ¬ ((w.toNat : Int) < 0); omega)
  simp [Scalar.select, IntOp.cmpi, e]

/-- Sample `n` of channel `ch` in frame `t` is the image's value at the row and the column its two words name. -/
theorem sample_apply {α : Type} {C N : Nat}
    (wf : GatherDims.WF ⟨4, ![8, C, 384, 512]⟩ ⟨3, ![8, N, 2]⟩ ⟨3, ![8, C, N]⟩ [1] [2, 3] [0] [2, 3] [0] 2 ![1, C, 1, 1])
    (x : (⟨4, ![8, C, 384, 512]⟩ : Shape).Idx → α) (idx : IVec ⟨3, ![8, N, 2]⟩ 32) (t : Fin 8) (ch : Fin C) (n : Fin N)
    (a b : BitVec 32) (ha : idx (ix3 t n (0 : Fin 2)) = a) (hb : idx (ix3 t n (1 : Fin 2)) = b)
    (ha' : a.toNat < 2 ^ 31) (hb' : b.toNat < 2 ^ 31) :
    Host.gather (sampleDims C N wf) x idx (ix3 t ch n) = x (ix4 t ch (pos 384 a) (pos 512 b)) := by
  unfold Host.gather
  refine congrArg x (funext fun q => Fin.ext ?_)
  have hk2 : (2 : Fin 4) ∉ (sampleDims C N wf).sKept := fun h => ((GatherDims.mem_sKept _ _).mp h).1 (by show _ ∈ [(2 : Fin 4), 3]; decide)
  have hk3 : (3 : Fin 4) ∉ (sampleDims C N wf).sKept := fun h => ((GatherDims.mem_sKept _ _).mp h).1 (by show _ ∈ [(2 : Fin 4), 3]; decide)
  have hk0 : (0 : Fin 4) ∉ (sampleDims C N wf).sKept := fun h => ((GatherDims.mem_sKept _ _).mp h).2 (by show _ ∈ [(0 : Fin 4)]; decide)
  have hb1 : (1 : Fin 4) ∉ (sampleDims C N wf).operandBatchingDims := by show _ ∉ [(0 : Fin 4)]; decide
  have hb2 : (2 : Fin 4) ∉ (sampleDims C N wf).operandBatchingDims := by show _ ∉ [(0 : Fin 4)]; decide
  have hb3 : (3 : Fin 4) ∉ (sampleDims C N wf).operandBatchingDims := by show _ ∉ [(0 : Fin 4)]; decide
  match q with
  | ⟨0, _⟩ =>
    show (sampleDims C N wf).start (ix3 t ch n) idx 0 + (sampleDims C N wf).batchCoord (ix3 t ch n) 0 + (sampleDims C N wf).offCoord (ix3 t ch n) 0 = t.val
    rw [GatherDims.start_batching _ _ _ _ (List.mem_singleton.mpr rfl), GatherDims.offCoord_eq_zero _ _ _ hk0]
    simp only [Nat.zero_add, Nat.add_zero]
    unfold GatherDims.batchCoord
    rw [dif_pos (List.mem_singleton.mpr rfl)]
    rfl
  | ⟨1, _⟩ =>
    show (sampleDims C N wf).start (ix3 t ch n) idx 1 + (sampleDims C N wf).batchCoord (ix3 t ch n) 1 + (sampleDims C N wf).offCoord (ix3 t ch n) 1 = ch.val
    have hs : (1 : Fin 4) ∉ (sampleDims C N wf).startIndexMap := by show _ ∉ [(2 : Fin 4), 3]; decide
    rw [GatherDims.batchCoord_eq_zero _ _ _ hb1]
    unfold GatherDims.start
    rw [dif_neg hs]
    simp only [Nat.zero_add]
    rfl
  | ⟨2, _⟩ =>
    show (sampleDims C N wf).start (ix3 t ch n) idx 2 + (sampleDims C N wf).batchCoord (ix3 t ch n) 2 + (sampleDims C N wf).offCoord (ix3 t ch n) 2 = (pos 384 a).val
    rw [GatherDims.batchCoord_eq_zero _ _ _ hb2, GatherDims.offCoord_eq_zero _ _ _ hk2]
    have hs : (2 : Fin 4) ∈ (sampleDims C N wf).startIndexMap := by show _ ∈ [(2 : Fin 4), 3]; decide
    unfold GatherDims.start
    rw [dif_pos hs]
    have hsi : (sampleDims C N wf).siIdx (ix3 t ch n) ⟨List.idxOf (2 : Fin 4) (sampleDims C N wf).startIndexMap,
        List.idxOf_lt_length_iff.2 hs⟩ = ix3 t n (0 : Fin 2) := by
      funext b; refine Fin.ext ?_
      match b with
      | ⟨0, _⟩ => rfl
      | ⟨1, _⟩ => rfl
      | ⟨2, _⟩ => rfl
    rw [hsi, ha, toInt_small a ha']
    rfl
  | ⟨3, _⟩ =>
    show (sampleDims C N wf).start (ix3 t ch n) idx 3 + (sampleDims C N wf).batchCoord (ix3 t ch n) 3 + (sampleDims C N wf).offCoord (ix3 t ch n) 3 = (pos 512 b).val
    rw [GatherDims.batchCoord_eq_zero _ _ _ hb3, GatherDims.offCoord_eq_zero _ _ _ hk3]
    have hs : (3 : Fin 4) ∈ (sampleDims C N wf).startIndexMap := by show _ ∈ [(2 : Fin 4), 3]; decide
    unfold GatherDims.start
    rw [dif_pos hs]
    have hsi : (sampleDims C N wf).siIdx (ix3 t ch n) ⟨List.idxOf (3 : Fin 4) (sampleDims C N wf).startIndexMap,
        List.idxOf_lt_length_iff.2 hs⟩ = ix3 t n (1 : Fin 2) := by
      funext b; refine Fin.ext ?_
      match b with
      | ⟨0, _⟩ => rfl
      | ⟨1, _⟩ => rfl
      | ⟨2, _⟩ => rfl
    rw [hsi, hb, toInt_small b hb']
    rfl

/-- The clipped words are below `2 ^ 31`. -/
theorem lo_small (n : Nat) (hn : n < 2 ^ 31) (x : EReal) : (lo (BitVec.ofNat 32 n) x).toNat < 2 ^ 31 := by
  have := clip_le n hn (FloatOps.fptosi (F := Ideal) (φ := .f32) 32 (fl x)); exact Nat.lt_of_le_of_lt this hn
@[inherit_doc lo_small] theorem hi_small (n : Nat) (hn : n < 2 ^ 31) (x : EReal) : (hi (BitVec.ofNat 32 n) x).toNat < 2 ^ 31 := by
  have := clip_le n hn (IntOp.addi (FloatOps.fptosi (F := Ideal) (φ := .f32) 32 (fl x)) 1#32); exact Nat.lt_of_le_of_lt this hn

end Cert.K01
end
-- ==== Proof.RefDepth.lean ====
/- The depth the reference samples at each point. -/
module
public import proofs.«01_k».proof.Proof.RefPoints
public import proofs.«01_k».proof.Proof.RefGather
@[expose] public section
set_option maxRecDepth 16384
noncomputable section
namespace Cert.K01
open Idealize.ShloMosaic Cert.ReferenceIdeal Cert.ReferenceIdeal.Gen Cert.ReferenceIdeal.Read

variable (V : SV.Idx → EReal) (D : SD.Idx → EReal) (A : SM.Idx → EReal) (t : Fin 8) (k : Fin 195840)

/-- The points' columns and rows. -/
theorem v61_at : val_main_v61 (F := Ideal) V A (ix2 t k) = colAt V A t (px k.val) := by
  rw [← (v49_at V A t k).1]
  pointwise [val_main_v61, val_main_v60, val_main_v59]
@[inherit_doc v61_at] theorem v64_at : val_main_v64 (F := Ideal) V A (ix2 t k) = rowAt V A t (py k.val) := by
  rw [← (v49_at V A t k).2]
  pointwise [val_main_v64, val_main_v63, val_main_v62]

/-- The four clipped neighbours. -/
theorem v68_at : val_main_v68 (F := Ideal) V A (ix2 t k) = lo 511#32 (colAt V A t (px k.val)) := by
  rw [val_main_v68_apply, val_main_call1_v4_apply, val_main_call1_v3_apply, val_main_c_7_apply, val_main_call1_v2_apply,
    val_main_call1_v1_apply, val_main_call1_v0_apply, val_main_c_6_apply, val_main_v67_apply, val_main_v65_apply, v61_at]
  rfl
@[inherit_doc v68_at] theorem v72_at : val_main_v72 (F := Ideal) V A (ix2 t k) = hi 511#32 (colAt V A t (px k.val)) := by
  rw [val_main_v72_apply, val_main_call2_v4_apply, val_main_call2_v3_apply, val_main_c_10_apply, val_main_call2_v2_apply,
    val_main_call2_v1_apply, val_main_call2_v0_apply, val_main_c_9_apply, val_main_v71_apply, val_main_v70_apply, val_main_c_8_apply,
    val_main_v69_apply, val_main_v65_apply, v61_at]
  rfl
@[inherit_doc v68_at] theorem v74_at : val_main_v74 (F := Ideal) V A (ix2 t k) = lo 383#32 (rowAt V A t (py k.val)) := by
  rw [val_main_v74_apply, val_main_call3_v4_apply, val_main_call3_v3_apply, val_main_c_12_apply, val_main_call3_v2_apply,
    val_main_call3_v1_apply, val_main_call3_v0_apply, val_main_c_11_apply, val_main_v73_apply, val_main_v66_apply, v64_at]
  rfl
@[inherit_doc v68_at] theorem v78_at : val_main_v78 (F := Ideal) V A (ix2 t k) = hi 383#32 (rowAt V A t (py k.val)) := by
  rw [val_main_v78_apply, val_main_call4_v4_apply, val_main_call4_v3_apply, val_main_c_15_apply, val_main_call4_v2_apply,
    val_main_call4_v1_apply, val_main_call4_v0_apply, val_main_c_14_apply, val_main_v77_apply, val_main_v76_apply, val_main_c_13_apply,
    val_main_v75_apply, val_main_v66_apply, v64_at]
  rfl

/-- The depth maps, one frame each. -/
theorem v58_at (y : Fin 384) (x : Fin 512) : val_main_v58 (F := Ideal) D (ix4 t 0 y x) = depthIm D t y x := by
  pointwise [val_main_v58]
  rfl

/-- The four samples. -/
theorem v94_at : val_main_v94 (F := Ideal) V D A (ix3 t 0 k)
    = depthIm D t (pos 384 (lo 383#32 (rowAt V A t (py k.val)))) (pos 512 (lo 511#32 (colAt V A t (px k.val)))) := by
  refine (sample_apply gather_S8x1x384x512_S8x195840x2_S8x1x195840_1_23_0_0_23_2_1111.wf (val_main_v58 (F := Ideal) D) _ t 0 k _ _ ?_ ?_
    (lo_small 383 (by decide) _) (lo_small 511 (by decide) _)).trans (v58_at D t _ _)
  · pointwise [val_main_v93]
    pointwise [val_main_v91, val_main_v85, val_main_v82, val_main_v81, val_main_c_16]
    rw [v74_at, wrap_small _ _ (lo_small 383 (by decide) _)]
  · pointwise [val_main_v93]
    pointwise [val_main_v92, val_main_v90, val_main_v87, val_main_v86, val_main_c_18]
    rw [v68_at, wrap_small _ _ (lo_small 511 (by decide) _)]

@[inherit_doc v94_at] theorem v108_at : val_main_v108 (F := Ideal) V D A (ix3 t 0 k)
    = depthIm D t (pos 384 (hi 383#32 (rowAt V A t (py k.val)))) (pos 512 (lo 511#32 (colAt V A t (px k.val)))) := by
  refine (sample_apply gather_S8x1x384x512_S8x195840x2_S8x1x195840_1_23_0_0_23_2_1111.wf (val_main_v58 (F := Ideal) D) _ t 0 k _ _ ?_ ?_
    (hi_small 383 (by decide) _) (lo_small 511 (by decide) _)).trans (v58_at D t _ _)
  · pointwise [val_main_v107]
    pointwise [val_main_v105, val_main_v99, val_main_v96, val_main_v95, val_main_c_20]
    rw [v78_at, wrap_small _ _ (hi_small 383 (by decide) _)]
  · pointwise [val_main_v107]
    pointwise [val_main_v106, val_main_v104, val_main_v101, val_main_v100, val_main_c_22]
    rw [v68_at, wrap_small _ _ (lo_small 511 (by decide) _)]
@[inherit_doc v94_at] theorem v122_at : val_main_v122 (F := Ideal) V D A (ix3 t 0 k)
    = depthIm D t (pos 384 (lo 383#32 (rowAt V A t (py k.val)))) (pos 512 (hi 511#32 (colAt V A t (px k.val)))) := by
  refine (sample_apply gather_S8x1x384x512_S8x195840x2_S8x1x195840_1_23_0_0_23_2_1111.wf (val_main_v58 (F := Ideal) D) _ t 0 k _ _ ?_ ?_
    (lo_small 383 (by decide) _) (hi_small 511 (by decide) _)).trans (v58_at D t _ _)
  · pointwise [val_main_v121]
    pointwise [val_main_v119, val_main_v113, val_main_v110, val_main_v109, val_main_c_24]
    rw [v74_at, wrap_small _ _ (lo_small 383 (by decide) _)]
  · pointwise [val_main_v121]
    pointwise [val_main_v120, val_main_v118, val_main_v115, val_main_v114, val_main_c_26]
    rw [v72_at, wrap_small _ _ (hi_small 511 (by decide) _)]
@[inherit_doc v94_at] theorem v136_at : val_main_v136 (F := Ideal) V D A (ix3 t 0 k)
    = depthIm D t (pos 384 (hi 383#32 (rowAt V A t (py k.val)))) (pos 512 (hi 511#32 (colAt V A t (px k.val)))) := by
  refine (sample_apply gather_S8x1x384x512_S8x195840x2_S8x1x195840_1_23_0_0_23_2_1111.wf (val_main_v58 (F := Ideal) D) _ t 0 k _ _ ?_ ?_
    (hi_small 383 (by decide) _) (hi_small 511 (by decide) _)).trans (v58_at D t _ _)
  · pointwise [val_main_v135]
    pointwise [val_main_v133, val_main_v127, val_main_v124, val_main_v123, val_main_c_28]
    rw [v78_at, wrap_small _ _ (hi_small 383 (by decide) _)]
  · pointwise [val_main_v135]
    pointwise [val_main_v134, val_main_v132, val_main_v129, val_main_v128, val_main_c_30]
    rw [v72_at, wrap_small _ _ (hi_small 511 (by decide) _)]

/-- The fractions, and one less them. -/
theorem v79_at : val_main_v79 (F := Ideal) V A (ix2 t k) = colAt V A t (px k.val) - fl (colAt V A t (px k.val)) := by
  rw [val_main_v79_apply, val_main_v65_apply, v61_at]; rfl
@[inherit_doc v79_at] theorem v80_at : val_main_v80 (F := Ideal) V A (ix2 t k) = rowAt V A t (py k.val) - fl (rowAt V A t (py k.val)) := by
  rw [val_main_v80_apply, val_main_v66_apply, v64_at]; rfl
@[inherit_doc v79_at] theorem v138_at : val_main_v138 (F := Ideal) V A (ix2 t k) = 1 - (colAt V A t (px k.val) - fl (colAt V A t (px k.val))) := by
  rw [val_main_v138_apply, val_main_v137_apply, val_main_cst_32_apply, v79_at, ← Ideal.ofBits_one_f32]; rfl
@[inherit_doc v79_at] theorem v140_at : val_main_v140 (F := Ideal) V A (ix2 t k) = 1 - (rowAt V A t (py k.val) - fl (rowAt V A t (py k.val))) := by
  rw [val_main_v140_apply, val_main_v139_apply, val_main_cst_33_apply, v80_at, ← Ideal.ofBits_one_f32]; rfl
@[inherit_doc v79_at] theorem v144_at : val_main_v144 (F := Ideal) V A (ix2 t k) = 1 - (colAt V A t (px k.val) - fl (colAt V A t (px k.val))) := by
  rw [val_main_v144_apply, val_main_v143_apply, val_main_cst_34_apply, v79_at, ← Ideal.ofBits_one_f32]; rfl
@[inherit_doc v79_at] theorem v148_at : val_main_v148 (F := Ideal) V A (ix2 t k) = 1 - (rowAt V A t (py k.val) - fl (rowAt V A t (py k.val))) := by
  rw [val_main_v148_apply, val_main_v147_apply, val_main_cst_35_apply, v80_at, ← Ideal.ofBits_one_f32]; rfl

/-- The sampled depth of point `k` in frame `t`. -/
theorem v159_at : val_main_v159 (F := Ideal) V D A (ix3 t 0 k)
    = bil (depthIm D t) (colAt V A t (px k.val)) (rowAt V A t (py k.val)) := by
  have e142 : idx_main_v142 (ix3 t 0 k) = ix2 t k := by funext a; fin_cases a <;> rfl
  have e146 : idx_main_v146 (ix3 t 0 k) = ix2 t k := by funext a; fin_cases a <;> rfl
  have e150 : idx_main_v150 (ix3 t 0 k) = ix2 t k := by funext a; fin_cases a <;> rfl
  have e152 : idx_main_v152 (ix3 t 0 k) = ix2 t k := by funext a; fin_cases a <;> rfl
  rw [val_main_v159_apply, val_main_v157_apply, val_main_v155_apply, val_main_v153_apply, val_main_v154_apply, val_main_v156_apply,
    val_main_v158_apply, v94_at, v108_at, v122_at, v136_at, val_main_v142_apply, val_main_v146_apply, val_main_v150_apply,
    val_main_v152_apply, e142, e146, e150, e152, val_main_v141_apply, val_main_v145_apply, val_main_v149_apply, val_main_v151_apply,
    v138_at, v140_at, v144_at, v148_at, v79_at, v80_at]
  rfl

/-- The points' tracks with their depth, in the order the scatter takes them: column, row, depth. -/
theorem v168_at :
    val_main_v168 (F := Ideal) V D A (ix4 0 t 0 k) = colAt V A t (px k.val)
    ∧ val_main_v168 (F := Ideal) V D A (ix4 0 t 1 k) = rowAt V A t (py k.val)
    ∧ val_main_v168 (F := Ideal) V D A (ix4 0 t 2 k) = bil (depthIm D t) (colAt V A t (px k.val)) (rowAt V A t (py k.val)) := by
  refine ⟨?_, ?_, ?_⟩
  · pointwise [val_main_v168, val_main_v165]
    pointwise [val_main_v164, val_main_v163, val_main_v162, val_main_cst]
    rw [(v49_at V A t k).1]
  · pointwise [val_main_v168, val_main_v165]
    pointwise [val_main_v164, val_main_v163, val_main_v162, val_main_cst]
    rw [(v49_at V A t k).2]
  · pointwise [val_main_v168, val_main_v165]
    pointwise [val_main_v161, val_main_v160]
    rw [v159_at]

end Cert.K01
end
-- ==== Proof.RefTracks.lean ====
/- The reference's dense maps: each point's track, depth and visibility put at the pixel the point covers. -/
module
public import proofs.«01_k».proof.Proof.RefDepth
public import Idealize.ShloMosaic.Lib.Routing.OpsSet
@[expose] public section
set_option maxRecDepth 16384
noncomputable section
namespace Cert.K01
open Idealize.ShloMosaic Cert.ReferenceIdeal Cert.ReferenceIdeal.Gen Cert.ReferenceIdeal.Read

/-- Where an update of the track scatter lands: in its own frame and channel, at the row and the column its point's two words name. -/
theorem land5 (idx : IVec S195840x2 32) (a : Fin 1) (t : Fin 8) (ch : Fin 3) (k : Fin 195840) (a' : Fin 1) (t' : Fin 8) (ch' : Fin 3) (y : Fin 384) (x : Fin 512) :
    scatter_S1x8x3x384x512_S195840x2_S1x8x3x195840_012_34_34_1.resultIdx? (ix4 a t ch k) idx = some (ix5 a' t' ch' y x)
      ↔ t = t' ∧ ch = ch' ∧ (idx (ix2 k (0 : Fin 2))).toInt = y.val ∧ (idx (ix2 k (1 : Fin 2))).toInt = x.val := by
  let d := scatter_S1x8x3x384x512_S195840x2_S1x8x3x195840_012_34_34_1
  rw [Routing.resultIdx?_eq_some]
  have hs0 : d.start (ix4 a t ch k) idx 0 = 0 := rfl
  have hs1 : d.start (ix4 a t ch k) idx 1 = 0 := rfl
  have hs2 : d.start (ix4 a t ch k) idx 2 = 0 := rfl
  have i0 : d.siIdx (ix4 a t ch k) ⟨0, by decide⟩ = ix2 k (0 : Fin 2) := by
    funext b; refine Fin.ext ?_
    match b with
    | ⟨0, _⟩ => rfl
    | ⟨1, _⟩ => rfl
  have i1 : d.siIdx (ix4 a t ch k) ⟨1, by decide⟩ = ix2 k (1 : Fin 2) := by
    funext b; refine Fin.ext ?_
    match b with
    | ⟨0, _⟩ => rfl
    | ⟨1, _⟩ => rfl
  have hs3 : d.start (ix4 a t ch k) idx 3 = (idx (ix2 k (0 : Fin 2))).toInt := by rw [← i0]; rfl
  have hs4 : d.start (ix4 a t ch k) idx 4 = (idx (ix2 k (1 : Fin 2))).toInt := by rw [← i1]; rfl
  have w0 : d.window (ix4 a t ch k) 0 = a.val := rfl
  have w1 : d.window (ix4 a t ch k) 1 = t.val := rfl
  have w2 : d.window (ix4 a t ch k) 2 = ch.val := rfl
  have w3 : d.window (ix4 a t ch k) 3 = 0 := rfl
  have w4 : d.window (ix4 a t ch k) 4 = 0 := rfl
  constructor
  · intro h
    have h1 : d.start (ix4 a t ch k) idx 1 + (d.window (ix4 a t ch k) 1 : Int) = (t'.val : Int) := h 1
    have h2 : d.start (ix4 a t ch k) idx 2 + (d.window (ix4 a t ch k) 2 : Int) = (ch'.val : Int) := h 2
    have h3 : d.start (ix4 a t ch k) idx 3 + (d.window (ix4 a t ch k) 3 : Int) = (y.val : Int) := h 3
    have h4 : d.start (ix4 a t ch k) idx 4 + (d.window (ix4 a t ch k) 4 : Int) = (x.val : Int) := h 4
    rw [hs1, w1] at h1
    rw [hs2, w2] at h2
    rw [hs3, w3] at h3
    rw [hs4, w4] at h4
    exact ⟨Fin.ext (by omega), Fin.ext (by omega), by omega, by omega⟩
  · rintro ⟨rfl, rfl, h3, h4⟩ q
    match q with
    | ⟨0, _⟩ =>
      show d.start (ix4 a t ch k) idx 0 + (d.window (ix4 a t ch k) 0 : Int) = (a'.val : Int)
      rw [hs0, w0]; omega
    | ⟨1, _⟩ =>
      show d.start (ix4 a t ch k) idx 1 + (d.window (ix4 a t ch k) 1 : Int) = (t.val : Int)
      rw [hs1, w1]; omega
    | ⟨2, _⟩ =>
      show d.start (ix4 a t ch k) idx 2 + (d.window (ix4 a t ch k) 2 : Int) = (ch.val : Int)
      rw [hs2, w2]; omega
    | ⟨3, _⟩ =>
      show d.start (ix4 a t ch k) idx 3 + (d.window (ix4 a t ch k) 3 : Int) = (y.val : Int)
      rw [hs3, w3]; omega
    | ⟨4, _⟩ =>
      show d.start (ix4 a t ch k) idx 4 + (d.window (ix4 a t ch k) 4 : Int) = (x.val : Int)
      rw [hs4, w4]; omega

/-- The same of the visibility scatter. -/
theorem land4 (idx : IVec S195840x2 32) (a : Fin 1) (t : Fin 8) (k : Fin 195840) (a' : Fin 1) (t' : Fin 8) (y : Fin 384) (x : Fin 512) :
    scatter_S1x8x384x512_S195840x2_S1x8x195840_01_23_23_1.resultIdx? (ix3 a t k) idx = some (ix4 a' t' y x)
      ↔ t = t' ∧ (idx (ix2 k (0 : Fin 2))).toInt = y.val ∧ (idx (ix2 k (1 : Fin 2))).toInt = x.val := by
  let d := scatter_S1x8x384x512_S195840x2_S1x8x195840_01_23_23_1
  rw [Routing.resultIdx?_eq_some]
  have hs0 : d.start (ix3 a t k) idx 0 = 0 := rfl
  have hs1 : d.start (ix3 a t k) idx 1 = 0 := rfl
  have i0 : d.siIdx (ix3 a t k) ⟨0, by decide⟩ = ix2 k (0 : Fin 2) := by
    funext b; refine Fin.ext ?_
    match b with
    | ⟨0, _⟩ => rfl
    | ⟨1, _⟩ => rfl
  have i1 : d.siIdx (ix3 a t k) ⟨1, by decide⟩ = ix2 k (1 : Fin 2) := by
    funext b; refine Fin.ext ?_
    match b with
    | ⟨0, _⟩ => rfl
    | ⟨1, _⟩ => rfl
  have hs2 : d.start (ix3 a t k) idx 2 = (idx (ix2 k (0 : Fin 2))).toInt := by rw [← i0]; rfl
  have hs3 : d.start (ix3 a t k) idx 3 = (idx (ix2 k (1 : Fin 2))).toInt := by rw [← i1]; rfl
  have w0 : d.window (ix3 a t k) 0 = a.val := rfl
  have w1 : d.window (ix3 a t k) 1 = t.val := rfl
  have w2 : d.window (ix3 a t k) 2 = 0 := rfl
  have w3 : d.window (ix3 a t k) 3 = 0 := rfl
  constructor
  · intro h
    have h1 : d.start (ix3 a t k) idx 1 + (d.window (ix3 a t k) 1 : Int) = (t'.val : Int) := h 1
    have h2 : d.start (ix3 a t k) idx 2 + (d.window (ix3 a t k) 2 : Int) = (y.val : Int) := h 2
    have h3 : d.start (ix3 a t k) idx 3 + (d.window (ix3 a t k) 3 : Int) = (x.val : Int) := h 3
    rw [hs1, w1] at h1
    rw [hs2, w2] at h2
    rw [hs3, w3] at h3
    exact ⟨Fin.ext (by omega), by omega, by omega⟩
  · rintro ⟨rfl, h2, h3⟩ q
    match q with
    | ⟨0, _⟩ =>
      show d.start (ix3 a t k) idx 0 + (d.window (ix3 a t k) 0 : Int) = (a'.val : Int)
      rw [hs0, w0]; omega
    | ⟨1, _⟩ =>
      show d.start (ix3 a t k) idx 1 + (d.window (ix3 a t k) 1 : Int) = (t.val : Int)
      rw [hs1, w1]; omega
    | ⟨2, _⟩ =>
      show d.start (ix3 a t k) idx 2 + (d.window (ix3 a t k) 2 : Int) = (y.val : Int)
      rw [hs2, w2]; omega
    | ⟨3, _⟩ =>
      show d.start (ix3 a t k) idx 3 + (d.window (ix3 a t k) 3 : Int) = (x.val : Int)
      rw [hs3, w3]; omega

/-- A small number's word, read signed. -/
theorem word_toInt (n : Nat) (h : n < 2 ^ 31) : (BitVec.ofNat 32 n).toInt = n := by
  rw [BitVec.toInt_eq_toNat_cond, BitVec.toNat_ofNat]; split <;> omega

/-- The two words of point `k`: its row and its column. -/
theorem v181_at (k : Fin 195840) :
    (val_main_v181 (F := Ideal) (ix2 k (0 : Fin 2))).toInt = py k.val ∧ (val_main_v181 (F := Ideal) (ix2 k (1 : Fin 2))).toInt = px k.val := by
  have hx := px_lt k
  have hy := py_lt k
  constructor
  · pointwise [val_main_v181]
    pointwise [val_main_v179, val_main_v173, val_main_v170, val_main_v169, val_main_c_38]
    rw [v29_at, wrap_small _ _ (by rw [BitVec.toNat_ofNat]; omega), word_toInt _ (by omega)]
  · pointwise [val_main_v181]
    pointwise [val_main_v180, val_main_v178, val_main_v175, val_main_v174, val_main_c_40]
    rw [v23_at, wrap_small _ _ (by rw [BitVec.toNat_ofNat]; omega), word_toInt _ (by omega)]
/-- The same words for the visibility scatter. -/
theorem v195_at (k : Fin 195840) :
    (val_main_v195 (F := Ideal) (ix2 k (0 : Fin 2))).toInt = py k.val ∧ (val_main_v195 (F := Ideal) (ix2 k (1 : Fin 2))).toInt = px k.val := by
  have hx := px_lt k
  have hy := py_lt k
  constructor
  · pointwise [val_main_v195]
    pointwise [val_main_v193, val_main_v187, val_main_v184, val_main_v183, val_main_c_42]
    rw [v29_at, wrap_small _ _ (by rw [BitVec.toNat_ofNat]; omega), word_toInt _ (by omega)]
  · pointwise [val_main_v195]
    pointwise [val_main_v194, val_main_v192, val_main_v189, val_main_v188, val_main_c_44]
    rw [v23_at, wrap_small _ _ (by rw [BitVec.toNat_ofNat]; omega), word_toInt _ (by omega)]

variable (V : SV.Idx → EReal) (D : SD.Idx → EReal) (A : SM.Idx → EReal) (K : SK.Idx → EReal)

/-- A channel whose updates are a function of the point's column and row is, after the scatter, that function of the pixel where a point
    covers it and zero elsewhere. -/
theorem v182_of (t : Fin 8) (ch : Fin 3) (f : Nat → Nat → EReal)
    (hf : ∀ k : Fin 195840, val_main_v168 (F := Ideal) V D A (ix4 0 t ch k) = f (px k.val) (py k.val)) (y : Fin 384) (x : Fin 512) :
    val_main_v182 (F := Ideal) V D A (ix5 0 t ch y x) = if x.val < 510 then f x.val y.val else 0 := by
  unfold val_main_v182
  split
  · next h =>
    refine Routing.scatter_set_hit _ _ _ _ _ _ (fun u hu => ?_) (ix4 0 t ch (pointOf y x h)) ?_
    · obtain ⟨a, t', ch', k, rfl⟩ : ∃ (a : Fin 1) (t' : Fin 8) (ch' : Fin 3) (k : Fin 195840), u = ix4 a t' ch' k :=
        ⟨u 0, u 1, u 2, u 3, by funext i; fin_cases i <;> rfl⟩
      obtain rfl : a = 0 := Subsingleton.elim _ _
      obtain ⟨rfl, rfl, hy, hx⟩ := (land5 _ _ _ _ _ _ _ _ _ _).1 hu
      rw [(v181_at k).1] at hy
      rw [(v181_at k).2] at hx
      rw [hf, show px k.val = x.val by omega, show py k.val = y.val by omega]
    · refine (land5 _ _ _ _ _ _ _ _ _ _).2 ⟨rfl, rfl, ?_, ?_⟩
      · rw [(v181_at _).1, py_pointOf]
      · rw [(v181_at _).2, px_pointOf]
  · next h =>
    rw [Routing.scatter_set_miss]
    · pointwise [val_main_v166, val_main_cst_36]
    · intro u hu
      obtain ⟨a, t', ch', k, rfl⟩ : ∃ (a : Fin 1) (t' : Fin 8) (ch' : Fin 3) (k : Fin 195840), u = ix4 a t' ch' k :=
        ⟨u 0, u 1, u 2, u 3, by funext i; fin_cases i <;> rfl⟩
      obtain ⟨-, -, -, hx⟩ := (land5 _ _ _ _ _ _ _ _ _ _).1 hu
      rw [(v181_at k).2] at hx
      have := px_lt k
      omega

/-- The dense tracks and depths. -/
theorem v182_0 (t : Fin 8) (y : Fin 384) (x : Fin 512) : val_main_v182 (F := Ideal) V D A (ix5 0 t 0 y x) = trackX V A t x :=
  v182_of V D A t 0 (fun a _ => colAt V A t a) (fun k => (v168_at V D A t k).1) y x
@[inherit_doc v182_0] theorem v182_1 (t : Fin 8) (y : Fin 384) (x : Fin 512) :
    val_main_v182 (F := Ideal) V D A (ix5 0 t 1 y x) = trackY V A t y x :=
  v182_of V D A t 1 (fun _ b => rowAt V A t b) (fun k => (v168_at V D A t k).2.1) y x
@[inherit_doc v182_0] theorem v182_2 (t : Fin 8) (y : Fin 384) (x : Fin 512) :
    val_main_v182 (F := Ideal) V D A (ix5 0 t 2 y x) = trackD V D A t y x :=
  v182_of V D A t 2 (fun a b => bil (depthIm D t) (colAt V A t a) (rowAt V A t b)) (fun k => (v168_at V D A t k).2.2) y x

/-- The dense visibilities: the frame's where a point covers the pixel, zero elsewhere. -/
theorem v196_at (t : Fin 8) (y : Fin 384) (x : Fin 512) :
    val_main_v196 (F := Ideal) V K (ix4 0 t y x) = if x.val < 510 then visib V K t else 0 := by
  unfold val_main_v196
  split
  · next h =>
    refine Routing.scatter_set_hit _ _ _ _ _ _ (fun u hu => ?_) (ix3 0 t (pointOf y x h)) ?_
    · obtain ⟨a, t', k, rfl⟩ : ∃ (a : Fin 1) (t' : Fin 8) (k : Fin 195840), u = ix3 a t' k :=
        ⟨u 0, u 1, u 2, by funext i; fin_cases i <;> rfl⟩
      obtain rfl : a = 0 := Subsingleton.elim _ _
      obtain ⟨rfl, -, -⟩ := (land4 _ _ _ _ _ _ _ _).1 hu
      exact v57_at V K _ k
    · refine (land4 _ _ _ _ _ _ _ _).2 ⟨rfl, ?_, ?_⟩
      · rw [(v195_at _).1, py_pointOf]
      · rw [(v195_at _).2, px_pointOf]
  · next h =>
    rw [Routing.scatter_set_miss]
    · pointwise [val_main_v167, val_main_cst_37]
    · intro u hu
      obtain ⟨a, t', k, rfl⟩ : ∃ (a : Fin 1) (t' : Fin 8) (k : Fin 195840), u = ix3 a t' k :=
        ⟨u 0, u 1, u 2, by funext i; fin_cases i <;> rfl⟩
      obtain ⟨-, -, hx⟩ := (land4 _ _ _ _ _ _ _ _).1 hu
      rw [(v195_at k).2] at hx
      have := px_lt k
      omega

end Cert.K01
end
-- ==== Proof.RefColour.lean ====
/- The reference's three-dimensional trajectories: the video sampled at the tracks, and the camera coordinates. -/
module
public import proofs.«01_k».proof.Proof.RefTracks
@[expose] public section
set_option maxRecDepth 16384
noncomputable section
namespace Cert.K01
open Idealize.ShloMosaic Cert.ReferenceIdeal Cert.ReferenceIdeal.Gen Cert.ReferenceIdeal.Read

variable (V : SV.Idx → EReal) (D : SD.Idx → EReal) (A : SM.Idx → EReal) (K : SK.Idx → EReal) (t : Fin 8) (n : Fin 196608)

/-- The row of pixel `n`. -/
abbrev rowOf (n : Fin 196608) : Fin 384 := ⟨n.val / 512, by omega⟩
/-- The column of pixel `n`. -/
abbrev colOf (n : Fin 196608) : Fin 512 := ⟨n.val % 512, by omega⟩

/-- The flat list of dense tracks. -/
theorem v201_at (a : Fin 1) (j : Fin 3) :
    val_main_v201 (F := Ideal) V D A (ix4 a t n j) = val_main_v182 (F := Ideal) V D A (ix5 0 t j (rowOf n) (colOf n)) := by
  pointwise [val_main_v201, val_main_v200]
@[inherit_doc v201_at] theorem v206_at (j : Fin 3) :
    val_main_v206 (F := Ideal) V D A (ix3 t n j) = val_main_v182 (F := Ideal) V D A (ix5 0 t j (rowOf n) (colOf n)) := by
  pointwise [val_main_v206, val_main_v201, val_main_v200]

/-- The sampling column and row of pixel `n`. -/
theorem v241_at : val_main_v241 (F := Ideal) V D A (ix2 t n) = pixX (trackX V A t (colOf n)) := by
  have e : val_main_v237 (F := Ideal) V D A (ix2 t n) = trackX V A t (colOf n) := by
    rw [← v182_0 V D A t (rowOf n) (colOf n), ← v206_at]
    pointwise [val_main_v237, val_main_v236]
  rw [val_main_v241_apply, val_main_v240_apply, val_main_cst_58_apply, val_main_v239_apply, val_main_v238_apply, val_main_cst_57_apply, e]
  rfl
@[inherit_doc v241_at] theorem v247_at : val_main_v247 (F := Ideal) V D A (ix2 t n) = pixY (trackY V A t (rowOf n) (colOf n)) := by
  have e : val_main_v243 (F := Ideal) V D A (ix2 t n) = trackY V A t (rowOf n) (colOf n) := by
    rw [← v182_1 V D A t (rowOf n) (colOf n), ← v206_at]
    pointwise [val_main_v243, val_main_v242]
  rw [val_main_v247_apply, val_main_v246_apply, val_main_cst_60_apply, val_main_v245_apply, val_main_v244_apply, val_main_cst_59_apply, e]
  rfl

/-- The four clipped neighbours. -/
theorem v251_at : val_main_v251 (F := Ideal) V D A (ix2 t n) = lo 511#32 (pixX (trackX V A t (colOf n))) := by
  rw [val_main_v251_apply, val_main_call5_v4_apply, val_main_call5_v3_apply, val_main_c_62_apply, val_main_call5_v2_apply,
    val_main_call5_v1_apply, val_main_call5_v0_apply, val_main_c_61_apply, val_main_v250_apply,
    val_main_v248_apply, v241_at]
  rfl
@[inherit_doc v251_at] theorem v255_at : val_main_v255 (F := Ideal) V D A (ix2 t n) = hi 511#32 (pixX (trackX V A t (colOf n))) := by
  rw [val_main_v255_apply, val_main_call6_v4_apply, val_main_call6_v3_apply, val_main_c_65_apply, val_main_call6_v2_apply,
    val_main_call6_v1_apply, val_main_call6_v0_apply, val_main_c_64_apply, val_main_v254_apply, val_main_v253_apply, val_main_c_63_apply, val_main_v252_apply,
    val_main_v248_apply, v241_at]
  rfl
@[inherit_doc v251_at] theorem v257_at : val_main_v257 (F := Ideal) V D A (ix2 t n) = lo 383#32 (pixY (trackY V A t (rowOf n) (colOf n))) := by
  rw [val_main_v257_apply, val_main_call7_v4_apply, val_main_call7_v3_apply, val_main_c_67_apply, val_main_call7_v2_apply,
    val_main_call7_v1_apply, val_main_call7_v0_apply, val_main_c_66_apply, val_main_v256_apply,
    val_main_v249_apply, v247_at]
  rfl
@[inherit_doc v251_at] theorem v261_at : val_main_v261 (F := Ideal) V D A (ix2 t n) = hi 383#32 (pixY (trackY V A t (rowOf n) (colOf n))) := by
  rw [val_main_v261_apply, val_main_call8_v4_apply, val_main_call8_v3_apply, val_main_c_70_apply, val_main_call8_v2_apply,
    val_main_call8_v1_apply, val_main_call8_v0_apply, val_main_c_69_apply, val_main_v260_apply, val_main_v259_apply, val_main_c_68_apply, val_main_v258_apply,
    val_main_v249_apply, v247_at]
  rfl

/-- The video, one frame each. -/
theorem v205_at (ch : Fin 3) (y : Fin 384) (x : Fin 512) : val_main_v205 (F := Ideal) V (ix4 t ch y x) = chanIm V t ch y x := by
  pointwise [val_main_v205]
  rfl

/-- The four samples. -/
theorem v277_at (ch : Fin 3) : val_main_v277 (F := Ideal) V D A (ix3 t ch n)
    = chanIm V t ch (pos 384 (lo 383#32 (pixY (trackY V A t (rowOf n) (colOf n))))) (pos 512 (lo 511#32 (pixX (trackX V A t (colOf n))))) := by
  refine (sample_apply gather_S8x3x384x512_S8x196608x2_S8x3x196608_1_23_0_0_23_2_1311.wf (val_main_v205 (F := Ideal) V) _ t ch n _ _ ?_ ?_
    (lo_small 383 (by decide) _) (lo_small 511 (by decide) _)).trans (v205_at V t ch _ _)
  · pointwise [val_main_v276]
    pointwise [val_main_v274, val_main_v268, val_main_v265, val_main_v264, val_main_c_71]
    rw [v257_at, wrap_small _ _ (lo_small 383 (by decide) _)]
  · pointwise [val_main_v276]
    pointwise [val_main_v275, val_main_v273, val_main_v270, val_main_v269, val_main_c_73]
    rw [v251_at, wrap_small _ _ (lo_small 511 (by decide) _)]
@[inherit_doc v277_at] theorem v291_at (ch : Fin 3) : val_main_v291 (F := Ideal) V D A (ix3 t ch n)
    = chanIm V t ch (pos 384 (hi 383#32 (pixY (trackY V A t (rowOf n) (colOf n))))) (pos 512 (lo 511#32 (pixX (trackX V A t (colOf n))))) := by
  refine (sample_apply gather_S8x3x384x512_S8x196608x2_S8x3x196608_1_23_0_0_23_2_1311.wf (val_main_v205 (F := Ideal) V) _ t ch n _ _ ?_ ?_
    (hi_small 383 (by decide) _) (lo_small 511 (by decide) _)).trans (v205_at V t ch _ _)
  · pointwise [val_main_v290]
    pointwise [val_main_v288, val_main_v282, val_main_v279, val_main_v278, val_main_c_75]
    rw [v261_at, wrap_small _ _ (hi_small 383 (by decide) _)]
  · pointwise [val_main_v290]
    pointwise [val_main_v289, val_main_v287, val_main_v284, val_main_v283, val_main_c_77]
    rw [v251_at, wrap_small _ _ (lo_small 511 (by decide) _)]
@[inherit_doc v277_at] theorem v305_at (ch : Fin 3) : val_main_v305 (F := Ideal) V D A (ix3 t ch n)
    = chanIm V t ch (pos 384 (lo 383#32 (pixY (trackY V A t (rowOf n) (colOf n))))) (pos 512 (hi 511#32 (pixX (trackX V A t (colOf n))))) := by
  refine (sample_apply gather_S8x3x384x512_S8x196608x2_S8x3x196608_1_23_0_0_23_2_1311.wf (val_main_v205 (F := Ideal) V) _ t ch n _ _ ?_ ?_
    (lo_small 383 (by decide) _) (hi_small 511 (by decide) _)).trans (v205_at V t ch _ _)
  · pointwise [val_main_v304]
    pointwise [val_main_v302, val_main_v296, val_main_v293, val_main_v292, val_main_c_79]
    rw [v257_at, wrap_small _ _ (lo_small 383 (by decide) _)]
  · pointwise [val_main_v304]
    pointwise [val_main_v303, val_main_v301, val_main_v298, val_main_v297, val_main_c_81]
    rw [v255_at, wrap_small _ _ (hi_small 511 (by decide) _)]
@[inherit_doc v277_at] theorem v319_at (ch : Fin 3) : val_main_v319 (F := Ideal) V D A (ix3 t ch n)
    = chanIm V t ch (pos 384 (hi 383#32 (pixY (trackY V A t (rowOf n) (colOf n))))) (pos 512 (hi 511#32 (pixX (trackX V A t (colOf n))))) := by
  refine (sample_apply gather_S8x3x384x512_S8x196608x2_S8x3x196608_1_23_0_0_23_2_1311.wf (val_main_v205 (F := Ideal) V) _ t ch n _ _ ?_ ?_
    (hi_small 383 (by decide) _) (hi_small 511 (by decide) _)).trans (v205_at V t ch _ _)
  · pointwise [val_main_v318]
    pointwise [val_main_v316, val_main_v310, val_main_v307, val_main_v306, val_main_c_83]
    rw [v261_at, wrap_small _ _ (hi_small 383 (by decide) _)]
  · pointwise [val_main_v318]
    pointwise [val_main_v317, val_main_v315, val_main_v312, val_main_v311, val_main_c_85]
    rw [v255_at, wrap_small _ _ (hi_small 511 (by decide) _)]

/-- The fractions, and one less them. -/
theorem v262_at : val_main_v262 (F := Ideal) V D A (ix2 t n) = (pixX (trackX V A t (colOf n))) - fl (pixX (trackX V A t (colOf n))) := by
  rw [val_main_v262_apply, val_main_v248_apply, v241_at]; rfl
@[inherit_doc v262_at] theorem v263_at : val_main_v263 (F := Ideal) V D A (ix2 t n) = (pixY (trackY V A t (rowOf n) (colOf n))) - fl (pixY (trackY V A t (rowOf n) (colOf n))) := by
  rw [val_main_v263_apply, val_main_v249_apply, v247_at]; rfl
@[inherit_doc v262_at] theorem v321_at : val_main_v321 (F := Ideal) V D A (ix2 t n) = 1 - ((pixX (trackX V A t (colOf n))) - fl (pixX (trackX V A t (colOf n)))) := by
  rw [val_main_v321_apply, val_main_v320_apply, val_main_cst_87_apply, v262_at, ← Ideal.ofBits_one_f32]; rfl
@[inherit_doc v262_at] theorem v323_at : val_main_v323 (F := Ideal) V D A (ix2 t n) = 1 - ((pixY (trackY V A t (rowOf n) (colOf n))) - fl (pixY (trackY V A t (rowOf n) (colOf n)))) := by
  rw [val_main_v323_apply, val_main_v322_apply, val_main_cst_88_apply, v263_at, ← Ideal.ofBits_one_f32]; rfl
@[inherit_doc v262_at] theorem v327_at : val_main_v327 (F := Ideal) V D A (ix2 t n) = 1 - ((pixX (trackX V A t (colOf n))) - fl (pixX (trackX V A t (colOf n)))) := by
  rw [val_main_v327_apply, val_main_v326_apply, val_main_cst_89_apply, v262_at, ← Ideal.ofBits_one_f32]; rfl
@[inherit_doc v262_at] theorem v331_at : val_main_v331 (F := Ideal) V D A (ix2 t n) = 1 - ((pixY (trackY V A t (rowOf n) (colOf n))) - fl (pixY (trackY V A t (rowOf n) (colOf n)))) := by
  rw [val_main_v331_apply, val_main_v330_apply, val_main_cst_90_apply, v263_at, ← Ideal.ofBits_one_f32]; rfl

/-- The colour of pixel `n` in frame `t`. -/
theorem v346_at (ch : Fin 3) : val_main_v346 (F := Ideal) V D A (ix3 t ch n) = colour V A t ch (rowOf n) (colOf n) := by
  have e336 : idx_main_v325 (idx_main_v336 (ix3 t ch n)) = ix2 t n := by funext a; fin_cases a <;> rfl
  have e338 : idx_main_v329 (idx_main_v338 (ix3 t ch n)) = ix2 t n := by funext a; fin_cases a <;> rfl
  have e341 : idx_main_v333 (idx_main_v341 (ix3 t ch n)) = ix2 t n := by funext a; fin_cases a <;> rfl
  have e344 : idx_main_v335 (idx_main_v344 (ix3 t ch n)) = ix2 t n := by funext a; fin_cases a <;> rfl
  rw [val_main_v346_apply, val_main_v343_apply, val_main_v340_apply, val_main_v337_apply, val_main_v339_apply, val_main_v342_apply,
    val_main_v345_apply, v277_at, v291_at, v305_at, v319_at, val_main_v336_apply, val_main_v338_apply, val_main_v341_apply,
    val_main_v344_apply, val_main_v325_apply, val_main_v329_apply, val_main_v333_apply, val_main_v335_apply, e336, e338, e341, e344,
    val_main_v324_apply, val_main_v328_apply, val_main_v332_apply, val_main_v334_apply, v321_at, v323_at, v327_at, v331_at, v262_at, v263_at]
  rfl

end Cert.K01
end
-- ==== Proof.RefResults.lean ====
/- The reference's five results as the specification writes them. -/
module
public import proofs.«01_k».proof.Proof.RefColour
@[expose] public section
set_option maxRecDepth 16384
noncomputable section
namespace Cert.K01
open Idealize.ShloMosaic Cert.ReferenceIdeal Cert.ReferenceIdeal.Gen Cert.ReferenceIdeal.Read

variable (V : SV.Idx → EReal) (D : SD.Idx → EReal) (A : SM.Idx → EReal) (K : SK.Idx → EReal)

/-- Minus one half is what its word denotes. -/
theorem neg_half : Ideal.ofBits .f32 0xBF000000#32 = - Ideal.ofBits .f32 0x3F000000#32 := by
  simp [Ideal.ofBits, Ideal.ieee, -EReal.coe_mul]
/-- Minus three eighths is what its word denotes. -/
theorem neg_three_eighths : Ideal.ofBits .f32 0xBEC00000#32 = - Ideal.ofBits .f32 0x3EC00000#32 := by
  simp [Ideal.ofBits, Ideal.ieee, -EReal.coe_mul]

/-- The first result: the tracks of the coarse grid. -/
theorem ref0 : val_main_v199 (F := Ideal) V D A = G0 V A := by
  funext i
  obtain ⟨a, t, n, k, rfl⟩ : ∃ (a : Fin 1) (t : Fin 8) (n : Fin 12288) (k : Fin 2), i = ix4 a t n k :=
    ⟨i 0, i 1, i 2, i 3, by funext a; fin_cases a <;> rfl⟩
  pointwise [val_main_v199, val_main_v198]
  unfold val_main_v197 Host.slice
  have e : (fun a' : Fin 5 => (⟨(![0, 0, 0, 0, 0] : Fin 5 → Nat) a' + (![1, 1, 1, 4, 4] : Fin 5 → Nat) a' * ((ix5 0 t k ⟨n.val / 128, by omega⟩ ⟨n.val % 128, by omega⟩ : S1x8x2x96x128.Idx) a').val, by
      match a' with
      | ⟨0, _⟩ => show 0 + 1 * 0 < 1; omega
      | ⟨1, _⟩ => show 0 + 1 * t.val < 8; omega
      | ⟨2, _⟩ => show 0 + 1 * k.val < 3; omega
      | ⟨3, _⟩ => show 0 + 4 * (n.val / 128) < 384; omega
      | ⟨4, _⟩ => show 0 + 4 * (n.val % 128) < 512; omega⟩ : Fin (S1x8x3x384x512.size a')))
      = (ix5 0 t ⟨k.val, by omega⟩ ⟨4 * (n.val / 128), by omega⟩ ⟨4 * (n.val % 128), by omega⟩ : S1x8x3x384x512.Idx) := by
    funext a'; refine Fin.ext ?_
    match a' with
    | ⟨0, _⟩ => rfl
    | ⟨1, _⟩ => show 0 + 1 * t.val = t.val; omega
    | ⟨2, _⟩ => show 0 + 1 * k.val = k.val; omega
    | ⟨3, _⟩ => show 0 + 4 * (n.val / 128) = 4 * (n.val / 128); omega
    | ⟨4, _⟩ => show 0 + 4 * (n.val % 128) = 4 * (n.val % 128); omega
  refine (congrArg (val_main_v182 (F := Ideal) V D A) e).trans ?_
  have hk : k = 0 ∨ k = 1 := by omega
  rcases hk with rfl | rfl
  · exact v182_0 V D A t _ _
  · exact v182_1 V D A t _ _

/-- The second result: the tracks of every pixel. -/
theorem ref1 : val_main_v352 (F := Ideal) V D A = G1 V A := by
  funext i
  obtain ⟨a, t, n, k, rfl⟩ : ∃ (a : Fin 1) (t : Fin 8) (n : Fin 196608) (k : Fin 2), i = ix4 a t n k :=
    ⟨i 0, i 1, i 2, i 3, by funext a; fin_cases a <;> rfl⟩
  fin_cases k
  · refine Eq.trans ?_ (v182_0 V D A t (rowOf n) (colOf n))
    pointwise [val_main_v352, val_main_v201, val_main_v200]
  · refine Eq.trans ?_ (v182_1 V D A t (rowOf n) (colOf n))
    pointwise [val_main_v352, val_main_v201, val_main_v200]

/-- The third result: the depths. -/
theorem ref2 : val_main_v353 (F := Ideal) V D A = G2 V D A := by
  funext i
  obtain ⟨a, t, n, k, rfl⟩ : ∃ (a : Fin 1) (t : Fin 8) (n : Fin 196608) (k : Fin 1), i = ix4 a t n k :=
    ⟨i 0, i 1, i 2, i 3, by funext a; fin_cases a <;> rfl⟩
  refine Eq.trans ?_ (v182_2 V D A t (rowOf n) (colOf n))
  pointwise [val_main_v353, val_main_v201, val_main_v200]

/-- The visibility bit of pixel `n`. -/
theorem v204_at (a : Fin 1) (t : Fin 8) (n : Fin 196608) : val_main_v204 (F := Ideal) V K (ix3 a t n) = trackB V K t (colOf n) := by
  have e : val_main_v202 (F := Ideal) V K (ix3 a t n) = if (colOf n).val < 510 then visib V K t else 0 := by
    rw [← v196_at V K t (rowOf n) (colOf n)]
    pointwise [val_main_v202]
  rw [val_main_v204_apply, e, val_main_v203_apply, val_main_cst_46_apply]
  unfold trackB
  split
  · rfl
  · show BitVec.ofBool (decide (Ideal.ofBits .f32 0x3F4CCCCD#32 < 0)) = 0#1
    rw [decide_eq_false]
    · rfl
    · rw [not_lt]
      simp [Ideal.ofBits, Ideal.ieee, -EReal.coe_mul]

/-- The fourth result: the visibility bits. -/
theorem ref3 : val_main_v204 (F := Ideal) V K = G3 V K := by
  funext i
  obtain ⟨a, t, n, rfl⟩ : ∃ (a : Fin 1) (t : Fin 8) (n : Fin 196608), i = ix3 a t n :=
    ⟨i 0, i 1, i 2, by funext a; fin_cases a <;> rfl⟩
  exact v204_at V K a t n

/-- The camera coordinates: the inverse intrinsics applied to the homogeneous pixel. -/
theorem v230_at (t : Fin 8) (n : Fin 196608) :
    val_main_v230 (F := Ideal) V D A (ix3 t n 0) = camX (trackX V A t (colOf n))
    ∧ val_main_v230 (F := Ideal) V D A (ix3 t n 1) = camY (trackY V A t (rowOf n) (colOf n))
    ∧ val_main_v230 (F := Ideal) V D A (ix3 t n 2) = 1 := by
  have x0 : val_main_v226 (F := Ideal) V D A (ix3 t n 0) = trackX V A t (colOf n) := by
    rw [← v182_0 V D A t (rowOf n) (colOf n), ← v206_at]
    pointwise [val_main_v226]
    pointwise [val_main_v223]
  have x1 : val_main_v226 (F := Ideal) V D A (ix3 t n 1) = trackY V A t (rowOf n) (colOf n) := by
    rw [← v182_1 V D A t (rowOf n) (colOf n), ← v206_at]
    pointwise [val_main_v226]
    pointwise [val_main_v223]
  have x2 : val_main_v226 (F := Ideal) V D A (ix3 t n 2) = 1 := by
    pointwise [val_main_v226]
    pointwise [val_main_v225, val_main_cst_56]
  have i00 : val_main_v222 (F := Ideal) (ix2 0 0) = Ideal.ofBits .f32 0x3B000000#32 := by
    pointwise [val_main_v222]
    pointwise [val_main_v219]
    pointwise [val_main_v210]
    pointwise [val_main_v207, val_main_cst_47]
  have i01 : val_main_v222 (F := Ideal) (ix2 0 1) = 0 := by
    pointwise [val_main_v222]
    pointwise [val_main_v219]
    pointwise [val_main_v210]
    pointwise [val_main_v208, val_main_cst_48]
  have i02 : val_main_v222 (F := Ideal) (ix2 0 2) = Ideal.ofBits .f32 0xBF000000#32 := by
    pointwise [val_main_v222]
    pointwise [val_main_v219]
    pointwise [val_main_v210]
    pointwise [val_main_v209, val_main_cst_49]
  have i10 : val_main_v222 (F := Ideal) (ix2 1 0) = 0 := by
    pointwise [val_main_v222]
    pointwise [val_main_v220]
    pointwise [val_main_v214]
    pointwise [val_main_v211, val_main_cst_50]
  have i11 : val_main_v222 (F := Ideal) (ix2 1 1) = Ideal.ofBits .f32 0x3B000000#32 := by
    pointwise [val_main_v222]
    pointwise [val_main_v220]
    pointwise [val_main_v214]
    pointwise [val_main_v212, val_main_cst_51]
  have i12 : val_main_v222 (F := Ideal) (ix2 1 2) = Ideal.ofBits .f32 0xBEC00000#32 := by
    pointwise [val_main_v222]
    pointwise [val_main_v220]
    pointwise [val_main_v214]
    pointwise [val_main_v213, val_main_cst_52]
  have i20 : val_main_v222 (F := Ideal) (ix2 2 0) = 0 := by
    pointwise [val_main_v222]
    pointwise [val_main_v221]
    pointwise [val_main_v218]
    pointwise [val_main_v215, val_main_cst_53]
  have i21 : val_main_v222 (F := Ideal) (ix2 2 1) = 0 := by
    pointwise [val_main_v222]
    pointwise [val_main_v221]
    pointwise [val_main_v218]
    pointwise [val_main_v216, val_main_cst_54]
  have i22 : val_main_v222 (F := Ideal) (ix2 2 2) = 1 := by
    pointwise [val_main_v222]
    pointwise [val_main_v221]
    pointwise [val_main_v218]
    pointwise [val_main_v217, val_main_cst_55]
  refine ⟨?_, ?_, ?_⟩
  · pointwise [val_main_v230, val_main_v229, val_main_v228, val_main_v227]
    rw [Fin.sum_univ_three, x0, x1, x2, i00, i01, i02, mul_zero, add_zero, one_mul, neg_half]
    rfl
  · pointwise [val_main_v230, val_main_v229, val_main_v228, val_main_v227]
    rw [Fin.sum_univ_three, x0, x1, x2, i10, i11, i12, mul_zero, zero_add, one_mul, neg_three_eighths]
    rfl
  · pointwise [val_main_v230, val_main_v229, val_main_v228, val_main_v227]
    rw [Fin.sum_univ_three, x0, x1, x2, i20, i21, i22, mul_zero, mul_zero, zero_add, zero_add, one_mul]

/-- Columns 0 to 2 of a trajectory: the camera coordinates and the depth. -/
theorem v351_0 (t : Fin 8) (n : Fin 196608) : val_main_v351 (F := Ideal) V D A K (ix3 t n 0) = camX (trackX V A t (colOf n)) := by
  refine Eq.trans ?_ (v230_at V D A t n).1
  pointwise [val_main_v351]
  pointwise [val_main_v235]
  pointwise [val_main_v231]
@[inherit_doc v351_0] theorem v351_1 (t : Fin 8) (n : Fin 196608) :
    val_main_v351 (F := Ideal) V D A K (ix3 t n 1) = camY (trackY V A t (rowOf n) (colOf n)) := by
  refine Eq.trans ?_ (v230_at V D A t n).2.1
  pointwise [val_main_v351]
  pointwise [val_main_v235]
  pointwise [val_main_v231]
@[inherit_doc v351_0] theorem v351_2 (t : Fin 8) (n : Fin 196608) :
    val_main_v351 (F := Ideal) V D A K (ix3 t n 2) = trackD V D A t (rowOf n) (colOf n) := by
  have ez : val_main_v232 (F := Ideal) V D A (ix3 t n 0) = 1 := by
    rw [← (v230_at V D A t n).2.2]
    pointwise [val_main_v232]
  have ed : val_main_v233 (F := Ideal) V D A (ix3 t n 0) = trackD V D A t (rowOf n) (colOf n) := by
    rw [← v182_2 V D A t (rowOf n) (colOf n), ← v206_at]
    pointwise [val_main_v233]
  have e : val_main_v234 (F := Ideal) V D A (ix3 t n 0) = trackD V D A t (rowOf n) (colOf n) := by
    rw [val_main_v234_apply, ez, ed]
    exact one_mul _
  rw [← e]
  pointwise [val_main_v351]
  pointwise [val_main_v235]

/-- Columns 3 to 5: the colour. -/
theorem v351_3 (t : Fin 8) (n : Fin 196608) : val_main_v351 (F := Ideal) V D A K (ix3 t n 3) = colour V A t 0 (rowOf n) (colOf n) := by
  refine Eq.trans ?_ (v346_at V D A t n 0)
  pointwise [val_main_v351]
  pointwise [val_main_v347]
@[inherit_doc v351_3] theorem v351_4 (t : Fin 8) (n : Fin 196608) :
    val_main_v351 (F := Ideal) V D A K (ix3 t n 4) = colour V A t 1 (rowOf n) (colOf n) := by
  refine Eq.trans ?_ (v346_at V D A t n 1)
  pointwise [val_main_v351]
  pointwise [val_main_v347]
@[inherit_doc v351_3] theorem v351_5 (t : Fin 8) (n : Fin 196608) :
    val_main_v351 (F := Ideal) V D A K (ix3 t n 5) = colour V A t 2 (rowOf n) (colOf n) := by
  refine Eq.trans ?_ (v346_at V D A t n 2)
  pointwise [val_main_v351]
  pointwise [val_main_v347]

/-- Column 6: the visibility bit as a float. -/
theorem v351_6 (t : Fin 8) (n : Fin 196608) :
    val_main_v351 (F := Ideal) V D A K (ix3 t n 6) = FloatOps.uitofp (F := Ideal) .f32 (trackB V K t (colOf n)) := by
  have e : idx_main_v349 (ix3 t n 0) = ix2 t n := by funext a; fin_cases a <;> rfl
  rw [← v204_at V K 0]
  pointwise [val_main_v351]
  rw [val_main_v350_apply, val_main_v349_apply, e]
  refine congrArg (FloatOps.uitofp (F := Ideal) .f32) ?_
  pointwise [val_main_v348]

/-- The fifth result: the trajectories. -/
theorem ref4 : val_main_v351 (F := Ideal) V D A K = G4 V D A K := by
  funext i
  obtain ⟨t, n, k, rfl⟩ : ∃ (t : Fin 8) (n : Fin 196608) (k : Fin 7), i = ix3 t n k :=
    ⟨i 0, i 1, i 2, by funext a; fin_cases a <;> rfl⟩
  show _ = traj V D A K t (rowOf n) (colOf n) k
  match k with
  | ⟨0, _⟩ => exact v351_0 ..
  | ⟨1, _⟩ => exact v351_1 ..
  | ⟨2, _⟩ => exact v351_2 ..
  | ⟨3, _⟩ => exact v351_3 ..
  | ⟨4, _⟩ => exact v351_4 ..
  | ⟨5, _⟩ => exact v351_5 ..
  | ⟨6, _⟩ => exact v351_6 ..

end Cert.K01
end
-- ==== Proof.lean ====
/- The certificate's claim, assembled. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelRun
public import proofs.«01_k».proof.Proof.RefResults
public import Idealize.ShloMosaic.Adequacy
public import Idealize.ShloMosaic.Init

@[expose] public section

noncomputable section

namespace Cert.Proof

open Idealize.ShloMosaic Idealize.SL.Sem

/-- The reference runs to its end, keeps its arguments and leaves every semaphore at zero. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

section reference
open Cert.K01
variable (m : (ℓ : Loc Cert.ReferenceIdeal.nD Cert.ReferenceIdeal.τ Cert.ReferenceIdeal.sig) → Buf (Elt Ideal) ℓ)
  (ρ : Dev Cert.ReferenceIdeal.nD → PrngReg)

/-- The reference's arguments on device `c`: video, depth maps, motion weights, visibility weights. -/
abbrev refVid (c : Dev Cert.ReferenceIdeal.nD) : SV.Idx → EReal :=
  m ((c.tc : Thread Cert.ReferenceIdeal.nD Cert.ReferenceIdeal.τ).loc Cert.ReferenceIdeal.main_arg0)
@[inherit_doc refVid] abbrev refDep (c : Dev Cert.ReferenceIdeal.nD) : SD.Idx → EReal :=
  m ((c.tc : Thread Cert.ReferenceIdeal.nD Cert.ReferenceIdeal.τ).loc Cert.ReferenceIdeal.main_arg1)
@[inherit_doc refVid] abbrev refMot (c : Dev Cert.ReferenceIdeal.nD) : SM.Idx → EReal :=
  m ((c.tc : Thread Cert.ReferenceIdeal.nD Cert.ReferenceIdeal.τ).loc Cert.ReferenceIdeal.main_arg2)
@[inherit_doc refVid] abbrev refVis (c : Dev Cert.ReferenceIdeal.nD) : SK.Idx → EReal :=
  m ((c.tc : Thread Cert.ReferenceIdeal.nD Cert.ReferenceIdeal.τ).loc Cert.ReferenceIdeal.main_arg3)

/-- Every fair execution of the reference ends with the five results the specification names, the arguments as launched. -/
theorem reference_run : θ_run (Cert.ReferenceIdeal.defs (F := Ideal)) (onTc (τ := Cert.ReferenceIdeal.τ) (Cert.ReferenceIdeal.main (F := Ideal)))
    ⟨m, fun _ => 0, ρ⟩ (fun r => ∀ c : Dev Cert.ReferenceIdeal.nD,
      r.2.mem ((c.tc : Thread Cert.ReferenceIdeal.nD Cert.ReferenceIdeal.τ).loc Cert.ReferenceIdeal.main_v199) = G0 (refVid m c) (refMot m c)
      ∧ r.2.mem ((c.tc : Thread Cert.ReferenceIdeal.nD Cert.ReferenceIdeal.τ).loc Cert.ReferenceIdeal.main_v352) = G1 (refVid m c) (refMot m c)
      ∧ r.2.mem ((c.tc : Thread Cert.ReferenceIdeal.nD Cert.ReferenceIdeal.τ).loc Cert.ReferenceIdeal.main_v353) = G2 (refVid m c) (refDep m c) (refMot m c)
      ∧ r.2.mem ((c.tc : Thread Cert.ReferenceIdeal.nD Cert.ReferenceIdeal.τ).loc Cert.ReferenceIdeal.main_v204) = G3 (refVid m c) (refVis m c)
      ∧ r.2.mem ((c.tc : Thread Cert.ReferenceIdeal.nD Cert.ReferenceIdeal.τ).loc Cert.ReferenceIdeal.main_v351) = G4 (refVid m c) (refDep m c) (refMot m c) (refVis m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c =>
    ⟨(h c).1.trans ((Cert.ReferenceIdeal.Read.val_main_v199_eq _).trans (ref0 (refVid m c) (refDep m c) (refMot m c))),
      (h c).2.1.trans ((Cert.ReferenceIdeal.Read.val_main_v352_eq _).trans (ref1 (refVid m c) (refDep m c) (refMot m c))),
      (h c).2.2.1.trans ((Cert.ReferenceIdeal.Read.val_main_v353_eq _).trans (ref2 (refVid m c) (refDep m c) (refMot m c))),
      (h c).2.2.2.1.trans ((Cert.ReferenceIdeal.Read.val_main_v204_eq _).trans (ref3 (refVid m c) (refVis m c))),
      (h c).2.2.2.2.1.trans ((Cert.ReferenceIdeal.Read.val_main_v351_eq _).trans (ref4 (refVid m c) (refDep m c) (refMot m c) (refVis m c))),
      (h c).2.2.2.2.2⟩)
    (Cert.ReferenceIdeal.Value.run (F := Ideal) m ρ)

end reference

/-- The kernel and the reference end with the same five results, for all arguments: each equals the specification's. -/
theorem same_results : Cert.algebraic_KernelIdeal_ReferenceIdeal := fun m g m' g' _ agree =>
  ⟨fun c => Cert.K01.G0 (Cert.K01.vid m c) (Cert.K01.wMot m c),
    fun c => Cert.K01.G1 (Cert.K01.vid m c) (Cert.K01.wMot m c),
    fun c => Cert.K01.G2 (Cert.K01.vid m c) (Cert.K01.dep m c) (Cert.K01.wMot m c),
    fun c => Cert.K01.G3 (Cert.K01.vid m c) (Cert.K01.wVis m c),
    fun c => Cert.K01.G4 (Cert.K01.vid m c) (Cert.K01.dep m c) (Cert.K01.wMot m c) (Cert.K01.wVis m c),
    Cert.K01.kernel_run m g,
    (θ_run Cert.ReferenceIdeal.defs _ _).mono (fun r h c => by
      have e0 : refVid m' c = Cert.K01.vid m c := (agree c).1
      have e1 : refDep m' c = Cert.K01.dep m c := (agree c).2.1
      have e2 : refMot m' c = Cert.K01.wMot m c := (agree c).2.2.1
      have e3 : refVis m' c = Cert.K01.wVis m c := (agree c).2.2.2
      have hc := h c
      rw [e0, e1, e2, e3] at hc
      exact hc) (reference_run m' g')⟩

/-- The certificate's claim: the three frames, the idealization, and the equality of all five results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, same_results⟩

end Cert.Proof

end
